-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 32768]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 32768]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S15x64x512 : Shape := ⟨3, ![15, 64, 512]⟩
abbrev S15 : Shape := ⟨1, ![15]⟩
abbrev S_ : Shape := ⟨0, ![]⟩
abbrev S64x1024 : Shape := ⟨2, ![64, 1024]⟩
abbrev S1 : Shape := ⟨1, ![1]⟩
abbrev S1x64x512 : Shape := ⟨3, ![1, 64, 512]⟩

abbrev nBuf : Space → Nat
  | .hbm => 8
  | .vmem => 10
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S64x512, .f32⟩
  | .local _ .vmem, ⟨0, _⟩ => ⟨S64x512, .f32⟩
  | .local _ .vmem, ⟨1, _⟩ => ⟨S512x1024, .f32⟩
  | .local _ .vmem, ⟨2, _⟩ => ⟨S1024x512, .f32⟩
  | .local _ .vmem, ⟨3, _⟩ => ⟨S512x1024, .f32⟩
  | .local _ .vmem, ⟨4, _⟩ => ⟨S1024x512, .f32⟩
  | .local _ .vmem, ⟨5, _⟩ => ⟨S512x1024, .f32⟩
  | .local _ .vmem, ⟨6, _⟩ => ⟨S1024x512, .f32⟩
  | .local _ .vmem, ⟨7, _⟩ => ⟨S64x512, .f32⟩
  | .local _ .vmem, ⟨8, _⟩ => ⟨S64x512, .f32⟩
  | .local _ .vmem, ⟨9, _⟩ => ⟨S15x64x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_33 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_28 : BitVec 32 := 1#32
  let v35 : BitVec 32 := Scalar.xori v2 c1_i32_28
  let c1_i32_32 : BitVec 32 := 1#32
  let v36 : BitVec 32 := Scalar.muli v35 c1_i32_32
  let v37 : BitVec 32 := Scalar.addi c0_i32_33 v36
  v37.toNat
def k0_dev7 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_56 : BitVec 32 := 2#32
  let v61 : BitVec 32 := Scalar.xori v2 c2_i32_56
  let c1_i32_60 : BitVec 32 := 1#32
  let v62 : BitVec 32 := Scalar.muli v61 c1_i32_60
  let v63 : BitVec 32 := Scalar.addi c0_i32_61 v62
  v63.toNat
def k0_dev8 (d0 : Dev nD) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_83 : BitVec 32 := 4#32
  let v87 : BitVec 32 := Scalar.xori v2 c4_i32_83
  let c1_i32_87 : BitVec 32 := 1#32
  let v88 : BitVec 32 := Scalar.muli v87 c1_i32_87
  let v89 : BitVec 32 := Scalar.addi c0_i32_88 v88
  v89.toNat
def k0_dev9 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_110 : BitVec 32 := 8#32
  let v113 : BitVec 32 := Scalar.xori v2 c8_i32_110
  let c1_i32_113 : BitVec 32 := 1#32
  let v114 : BitVec 32 := Scalar.muli v113 c1_i32_113
  let v115 : BitVec 32 := Scalar.addi c0_i32_114 v114
  v115.toNat
def k0_dev10 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_136 : BitVec 32 := 16#32
  let v139 : BitVec 32 := Scalar.xori v2 c16_i32_136
  let c1_i32_140 : BitVec 32 := 1#32
  let v140 : BitVec 32 := Scalar.muli v139 c1_i32_140
  let v141 : BitVec 32 := Scalar.addi c0_i32_141 v140
  v141.toNat
def k0_dev11 (d0 : Dev nD) : Nat :=
  let c0_i32_183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_178 : BitVec 32 := 1#32
  let v180 : BitVec 32 := Scalar.xori v2 c1_i32_178
  let c1_i32_182 : BitVec 32 := 1#32
  let v181 : BitVec 32 := Scalar.muli v180 c1_i32_182
  let v182 : BitVec 32 := Scalar.addi c0_i32_183 v181
  v182.toNat
def k0_dev12 (d0 : Dev nD) : Nat :=
  let c0_i32_209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_205 : BitVec 32 := 2#32
  let v206 : BitVec 32 := Scalar.xori v2 c2_i32_205
  let c1_i32_208 : BitVec 32 := 1#32
  let v207 : BitVec 32 := Scalar.muli v206 c1_i32_208
  let v208 : BitVec 32 := Scalar.addi c0_i32_209 v207
  v208.toNat
def k0_dev13 (d0 : Dev nD) : Nat :=
  let c0_i32_235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_231 : BitVec 32 := 4#32
  let v232 : BitVec 32 := Scalar.xori v2 c4_i32_231
  let c1_i32_234 : BitVec 32 := 1#32
  let v233 : BitVec 32 := Scalar.muli v232 c1_i32_234
  let v234 : BitVec 32 := Scalar.addi c0_i32_235 v233
  v234.toNat
def k0_dev14 (d0 : Dev nD) : Nat :=
  let c0_i32_262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_257 : BitVec 32 := 8#32
  let v258 : BitVec 32 := Scalar.xori v2 c8_i32_257
  let c1_i32_261 : BitVec 32 := 1#32
  let v259 : BitVec 32 := Scalar.muli v258 c1_i32_261
  let v260 : BitVec 32 := Scalar.addi c0_i32_262 v259
  v260.toNat
def k0_dev15 (d0 : Dev nD) : Nat :=
  let c0_i32_288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_284 : BitVec 32 := 16#32
  let v284 : BitVec 32 := Scalar.xori v2 c16_i32_284
  let c1_i32_287 : BitVec 32 := 1#32
  let v285 : BitVec 32 := Scalar.muli v284 c1_i32_287
  let v286 : BitVec 32 := Scalar.addi c0_i32_288 v285
  v286.toNat
def k0_dev16 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_325 : BitVec 32 := 1#32
  let v325 : BitVec 32 := Scalar.xori v2 c1_i32_325
  let c1_i32_328 : BitVec 32 := 1#32
  let v326 : BitVec 32 := Scalar.muli v325 c1_i32_328
  let v327 : BitVec 32 := Scalar.addi c0_i32_329 v326
  v327.toNat
def k0_dev17 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_351 : BitVec 32 := 2#32
  let v351 : BitVec 32 := Scalar.xori v2 c2_i32_351
  let c1_i32_354 : BitVec 32 := 1#32
  let v352 : BitVec 32 := Scalar.muli v351 c1_i32_354
  let v353 : BitVec 32 := Scalar.addi c0_i32_355 v352
  v353.toNat
def k0_dev18 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_377 : BitVec 32 := 4#32
  let v377 : BitVec 32 := Scalar.xori v2 c4_i32_377
  let c1_i32_380 : BitVec 32 := 1#32
  let v378 : BitVec 32 := Scalar.muli v377 c1_i32_380
  let v379 : BitVec 32 := Scalar.addi c0_i32_381 v378
  v379.toNat
def k0_dev19 (d0 : Dev nD) : Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_403 : BitVec 32 := 8#32
  let v403 : BitVec 32 := Scalar.xori v2 c8_i32_403
  let c1_i32_406 : BitVec 32 := 1#32
  let v404 : BitVec 32 := Scalar.muli v403 c1_i32_406
  let v405 : BitVec 32 := Scalar.addi c0_i32_407 v404
  v405.toNat
def k0_dev20 (d0 : Dev nD) : Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_429 : BitVec 32 := 16#32
  let v429 : BitVec 32 := Scalar.xori v2 c16_i32_429
  let c1_i32_432 : BitVec 32 := 1#32
  let v430 : BitVec 32 := Scalar.muli v429 c1_i32_432
  let v431 : BitVec 32 := Scalar.addi c0_i32_433 v430
  v431.toNat
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S64x512 : Shape := ⟨2, ![64, 512]⟩
abbrev S512x32768 : Shape := ⟨2, ![512, 32768]⟩
abbrev S32768x512 : Shape := ⟨2, ![32768, 512]⟩
abbrev S64x32768 : Shape := ⟨2, ![64, 32768]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S512x32768, .f32⟩
  | .hbm, ⟨2, _⟩ => ⟨S512x32768, .f32⟩
  | .hbm, ⟨3, _⟩ => ⟨S512x32768, .f32⟩
  | .hbm, ⟨4, _⟩ => ⟨S32768x512, .f32⟩
  | .hbm, ⟨5, _⟩ => ⟨S32768x512, .f32⟩
  | .hbm, ⟨6, _⟩ => ⟨S32768x512, .f32⟩
  | .hbm, ⟨7, _⟩ => ⟨S64x32768, .f32⟩
  | .hbm, ⟨8, _⟩ => ⟨S_, .f32⟩
  | .hbm, ⟨9, _⟩ => ⟨S64x32768, .f32⟩
  | .hbm, ⟨10, _⟩ => ⟨S64x32768, .f32⟩
  | .hbm, ⟨11, _⟩ => ⟨S64x512, .f32⟩
  | .hbm, ⟨12, _⟩ => ⟨S64x32768, .f32⟩
  | .hbm, ⟨13, _⟩ => ⟨S_, .f32⟩
  | .hbm, ⟨14, _⟩ => ⟨S64x32768, .f32⟩
  | .hbm, ⟨15, _⟩ => ⟨S64x32768, .f32⟩
  | .hbm, ⟨16, _⟩ => ⟨S64x512, .f32⟩
  | .hbm, ⟨17, _⟩ => ⟨S64x32768, .f32⟩
  | .hbm, ⟨18, _⟩ => ⟨S_, .f32⟩
  | .hbm, ⟨19, _⟩ => ⟨S64x32768, .f32⟩
  | .hbm, ⟨20, _⟩ => ⟨S64x32768, .f32⟩
  | .hbm, ⟨21, _⟩ => ⟨S64x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Cube.lean ====
/-
# The exchange of partial sums over a hypercube of 32 devices: cells, contents and schedule

Thirty-two devices, numbered in binary; in exchange `s = 5 * layer + r` a device and the device whose number
differs in bit `r` send each other their running sums, each into the other's landing slot `s`. This module names
the partners, the semaphore cells and the landing slots, says what every buffer holds before every exchange, and
states the schedule of the run: who pays which cell, how much, and what comes with the payment.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's own, and the exchange's with five duties a round at most -/

abbrev UX : Type := URounds (GSem nD τ sig) (Fin 5)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Partners -/

/-- The device whose number differs from `c`'s in bit `r` and nowhere else. -/
def peer (r : Fin 5) (c : Dev nD) : Dev nD :=
  ⟨c.val ^^^ 2 ^ r.val, by revert r c; decide +kernel⟩

theorem peer_peer (r : Fin 5) (c : Dev nD) : peer r (peer r c) = c := by revert r c; decide +kernel

/-- The partner map along bit `r`, as a permutation of the devices. -/
def flip (r : Fin 5) : Dev nD ≃ Dev nD := ⟨peer r, peer r, peer_peer r, peer_peer r⟩

theorem eq_peer_iff {r : Fin 5} {c d : Dev nD} : peer r d = c ↔ d = peer r c :=
  ⟨fun h => by rw [← h, peer_peer], fun h => by rw [h, peer_peer]⟩

/-- The bit exchange `s` works along. -/
def bit (s : Fin 15) : Fin 5 := ⟨s.val % 5, Nat.mod_lt _ (by decide)⟩

/-- Whom a device exchanges with in exchange `s`. -/
def buddy (s : Fin 15) (c : Dev nD) : Dev nD := peer (bit s) c

theorem buddy_buddy (s : Fin 15) (c : Dev nD) : buddy s (buddy s c) = c := peer_peer _ _

/-- The program's device arithmetic: the five signals' targets, the fifteen transfers' targets. -/
def sigTo (r : Fin 5) (c : Dev nD) : ℕ := ![k0_dev1 c, k0_dev2 c, k0_dev3 c, k0_dev4 c, k0_dev5 c] r
def sendTo (s : Fin 15) (c : Dev nD) : ℕ :=
  ![k0_dev6 c, k0_dev7 c, k0_dev8 c, k0_dev9 c, k0_dev10 c, k0_dev11 c, k0_dev12 c, k0_dev13 c, k0_dev14 c, k0_dev15 c,
    k0_dev16 c, k0_dev17 c, k0_dev18 c, k0_dev19 c, k0_dev20 c] s

/-- Signal `r` goes to the partner along bit `r`. -/
theorem sigTo_eq : ∀ r c, sigTo r c = (peer r c).val := by decide +kernel
/-- Transfer `s` goes to the partner of exchange `s`. -/
theorem sendTo_eq : ∀ s c, sendTo s c = (buddy s c).val := by decide +kernel

/-! ## Buffers, landing slots and cells -/

abbrev xM : Memref sig .tc .vmem S64x512 .f32 := Memref.whole cc0_stg0_0
abbrev oM : Memref sig .tc .vmem S64x512 .f32 := Memref.whole cc0_stg7_0
abbrev aM : Memref sig .tc .vmem S64x512 .f32 := Memref.whole cc0_scratch0
abbrev rM : Memref sig .tc .vmem S15x64x512 .f32 := Memref.whole cc0_scratch1

theorem inb_slot (s : Fin 15) : ∀ a, (![s.val, 0, 0] : Fin 3 → Nat) a + S1x64x512.size a ≤ S15x64x512.size a := by
  revert s; decide
theorem inb_sem (s : Fin 15) : ∀ a, (![s.val] : Fin 1 → Nat) a + S1.size a ≤ S15.size a := by revert s; decide

/-- The rectangle of slot `s` in the landing buffer. -/
abbrev slotR (s : Fin 15) : Rect S15x64x512 := Rect.unit (s := S15x64x512) ![s.val, 0, 0] S1x64x512.size (inb_slot s)
/-- Landing slot `s`, as the transfers address it. -/
abbrev slotM (s : Fin 15) : Memref sig .tc .vmem S64x512 .f32 :=
  (rM.slice (slotR s) (fun _ => rfl)).squeeze S64x512 squeezes_S1x64x512_S64x512

abbrev sendSem (s : Fin 15) : DmaSem sig :=
  ((cc0_scratch2.slice (Rect.unit (s := S15) ![s.val] S1.size (inb_sem s))).squeeze S_ squeezes_S1_S_).sem
abbrev recvSem (s : Fin 15) : DmaSem sig :=
  ((cc0_scratch3.slice (Rect.unit (s := S15) ![s.val] S1.size (inb_sem s))).squeeze S_ squeezes_S1_S_).sem
abbrev barS : Sem sig := (SemArray.scalar (sig.barrier 0 rfl) : Sems sig S_).sem

theorem sendSem_eq (s : Fin 15) : sendSem s = (⟨8 + s.val, by have := s.isLt; omega⟩ : Fin 38) := by revert s; decide
theorem recvSem_eq (s : Fin 15) : recvSem s = (⟨23 + s.val, by have := s.isLt; omega⟩ : Fin 38) := by revert s; decide

abbrev barCell (c : Dev nD) : GSem nD τ sig := ((c : Thread nD τ), .reg barS)
abbrev sendCell (c : Dev nD) (s : Fin 15) : GSem nD τ sig := ((c : Thread nD τ), .dma (sendSem s))
abbrev recvCell (c : Dev nD) (s : Fin 15) : GSem nD τ sig := ((c : Thread nD τ), .dma (recvSem s))

/-- The exchange of a transfer semaphore, and whether it counts arrivals. -/
def slotOf (q : DmaSem sig) : Fin 15 := ⟨(q.val + 7) % 15, Nat.mod_lt _ (by decide)⟩
abbrev IsXfer (q : DmaSem sig) : Prop := 8 ≤ q.val
abbrev IsRecv (q : DmaSem sig) : Prop := 23 ≤ q.val

theorem slotOf_send (s : Fin 15) : slotOf (sendSem s) = s := by revert s; decide
theorem slotOf_recv (s : Fin 15) : slotOf (recvSem s) = s := by revert s; decide
theorem isXfer_send (s : Fin 15) : IsXfer (sendSem s) := by revert s; decide
theorem isXfer_recv (s : Fin 15) : IsXfer (recvSem s) := by revert s; decide
theorem isRecv_recv (s : Fin 15) : IsRecv (recvSem s) := by revert s; decide
theorem not_isRecv_send (s : Fin 15) : ¬ IsRecv (sendSem s) := by revert s; decide

/-- What one transfer credits its two cells. -/
abbrev N : ℕ := aM.view.dmaCredit
theorem N_pos : 0 < N := View.dmaCredit_pos _ (by decide)

/-! ## Contents -/

abbrev Vc (F : FTy → Type) : Type := Vec F S64x512 .f32

/-- The input every device stages, and its blocks of the layers' two weight matrices. -/
def xV (c : Dev nD) : Vc F := (win0_0.blk (0 : Fin 1)).view.read (Elt F) ((s₀ m ρ).mem ((c : Thread nD τ).loc main_arg0))
def inV (l : Fin 3) (c : Dev nD) : Vec F S512x1024 .f32 := match l with
  | 0 => (win0_1.blk (0 : Fin 1)).view.read (Elt F) ((s₀ m ρ).mem ((c : Thread nD τ).loc main_arg1))
  | 1 => (win0_3.blk (0 : Fin 1)).view.read (Elt F) ((s₀ m ρ).mem ((c : Thread nD τ).loc main_arg2))
  | 2 => (win0_5.blk (0 : Fin 1)).view.read (Elt F) ((s₀ m ρ).mem ((c : Thread nD τ).loc main_arg3))
def outV (l : Fin 3) (c : Dev nD) : Vec F S1024x512 .f32 := match l with
  | 0 => (win0_2.blk (0 : Fin 1)).view.read (Elt F) ((s₀ m ρ).mem ((c : Thread nD τ).loc main_arg4))
  | 1 => (win0_4.blk (0 : Fin 1)).view.read (Elt F) ((s₀ m ρ).mem ((c : Thread nD τ).loc main_arg5))
  | 2 => (win0_6.blk (0 : Fin 1)).view.read (Elt F) ((s₀ m ρ).mem ((c : Thread nD τ).loc main_arg6))

/-- One addition: a device's running sum and what landed. -/
def sumV (a b : Vc F) : Vc F := shapeCast S64x512 (addf (F := F) (s := S64x512) (φ := .f32) a b) shapeCasts_S64x512_S64x512

/-- The running sums after `r` exchanges of one layer, from the partial products `a`. -/
def exch (a : Dev nD → Vc F) : ℕ → Dev nD → Vc F
  | 0 => a
  | r + 1 => fun c => sumV (exch a r c) (exch a r (peer ⟨r % 5, Nat.mod_lt _ (by decide)⟩ c))

/-- A device's partial product in a layer, from the layer's input on it. -/
def part (l : ℕ) (o : Dev nD → Vc F) (c : Dev nD) : Vc F :=
  k0_pay2 (o c) (inV m ρ ⟨l % 3, Nat.mod_lt _ (by decide)⟩ c) (outV m ρ ⟨l % 3, Nat.mod_lt _ (by decide)⟩ c)

/-- What every device holds as the input of layer `l` (the result, at `l = 3`). -/
def act : ℕ → Dev nD → Vc F
  | 0 => fun c => k0_pay1 (xV m ρ c)
  | l + 1 => exch (part m ρ l (act l)) 5

/-- The running sum on `c` as exchange `s` begins. -/
def accV (s : Fin 15) (c : Dev nD) : Vc F := exch (part m ρ (s.val / 5) (act m ρ (s.val / 5))) (s.val % 5) c

/-- The running sum on `c` as exchange `s` ends. -/
def accN (s : Fin 15) (c : Dev nD) : Vc F := sumV (accV m ρ s c) (accV m ρ s (buddy s c))

/-! ## The resources that change hands -/

/-- `c`'s running-sum buffer, holding `f`. -/
def accP (c : Dev nD) (f : Vc F) : sProp 𝕄 := ((c : Thread nD τ).loc cc0_scratch0) ↦{fullShare} f
/-- `c`'s landing slot `s`, holding anything. -/
def freeP (c : Dev nD) (s : Fin 15) : sProp 𝕄 :=
  iprop(∃ f, (slotM s).view.loc (c : Thread nD τ) ↦[(slotM s).view.set]{fullShare} f)
/-- `c`'s landing slot `s`, holding its partner's running sum. -/
def landP (c : Dev nD) (s : Fin 15) : sProp 𝕄 := owns (c : Thread nD τ) (slotM s) fullShare (accV m ρ s (buddy s c))

/-- What the partner along bit `r` hands over at the barrier: its three landing slots of that bit. -/
def barPay (c : Dev nD) (r : Fin 5) : sProp 𝕄 := bigSep (Finset.univ.filter fun s => bit s = r) fun s => freeP (peer r c) s

omit [FloatOps F] in
instance accP_storable (c : Dev nD) (f) : BI.Storable (upEmb : UEmb _ 𝕄) (accP (F := F) c f) := by unfold accP; infer_instance
omit [FloatOps F] in
instance freeP_storable (c : Dev nD) (s) : BI.Storable (upEmb : UEmb _ 𝕄) (freeP (F := F) c s) := by unfold freeP; infer_instance
instance landP_storable (c : Dev nD) (s) : BI.Storable (upEmb : UEmb _ 𝕄) (landP m ρ c s) := by unfold landP; infer_instance
omit [FloatOps F] in
instance barPay_storable (c : Dev nD) (r) : BI.Storable (upEmb : UEmb _ 𝕄) (barPay (F := F) c r) := by unfold barPay; infer_instance

/-! ## The schedule: everything happens once, in round 0 -/

/-- A barrier cell takes one unit from each of the five partners; a send or receive cell one transfer's credit. -/
def rd : Rounds.Schedule (GSem nD τ sig) (Fin 5) 𝕄 where
  duties g r := if r = 0 ∧ g.1.2 = .tc then (match g.2 with | .reg _ => Finset.univ | .dma q => if IsXfer q then {0} else ∅) else ∅
  unitless _ := False
  amount g _ _ := match g.2 with | .reg _ => 1 | .dma _ => N
  payload g _ d := match g.2 with
    | .reg _ => barPay g.1.1 d
    | .dma q => if IsRecv q then landP m ρ g.1.1 (slotOf q) else accP g.1.1 (accV m ρ (slotOf q) g.1.1)
  amount_pos g _ _ _ := by
    rcases g with ⟨t, _ | _⟩
    · exact Nat.one_pos
    · exact N_pos

instance rd_payload_storable (g : GSem nD τ sig) (r : ℕ) (d : Fin 5) : BI.Storable (upEmb : UEmb _ 𝕄) ((rd m ρ).payload g r d) := by
  rcases g with ⟨t, _ | q⟩
  · exact barPay_storable _ _
  · show BI.Storable upEmb (if IsRecv q then landP m ρ t.1 (slotOf q) else accP t.1 (accV m ρ (slotOf q) t.1))
    split <;> infer_instance

section Sched
variable (c : Dev nD) (s : Fin 15)

theorem duties_bar : (rd m ρ).duties (barCell c) 0 = Finset.univ := by simp only [rd]; exact if_pos ⟨trivial, trivial⟩
theorem duties_send : (rd m ρ).duties (sendCell c s) 0 = {0} := by
  simp only [rd]; exact (if_pos ⟨trivial, trivial⟩).trans (if_pos (isXfer_send s))
theorem duties_recv : (rd m ρ).duties (recvCell c s) 0 = {0} := by
  simp only [rd]; exact (if_pos ⟨trivial, trivial⟩).trans (if_pos (isXfer_recv s))
theorem duties_later (g : GSem nD τ sig) : ∀ r, 1 ≤ r → (rd m ρ).duties g r = ∅ := fun r hr => if_neg fun h => by omega

theorem amount_bar (d : Fin 5) : (rd m ρ).amount (barCell c) 0 d = 1 := rfl
theorem amount_send (d : Fin 5) : (rd m ρ).amount (sendCell c s) 0 d = N := rfl
theorem amount_recv (d : Fin 5) : (rd m ρ).amount (recvCell c s) 0 d = N := rfl

theorem expect_bar : (rd m ρ).expect (barCell c) 0 = 5 := by
  unfold Schedule.expect Schedule.amountOf
  rw [duties_bar, Finset.sum_congr rfl fun d _ => amount_bar m ρ c d, Finset.sum_const, Finset.card_univ, Fintype.card_fin, smul_eq_mul]
theorem expect_send : (rd m ρ).expect (sendCell c s) 0 = N := by
  unfold Schedule.expect Schedule.amountOf; rw [duties_send, Finset.sum_singleton, amount_send]
theorem expect_recv : (rd m ρ).expect (recvCell c s) 0 = N := by
  unfold Schedule.expect Schedule.amountOf; rw [duties_recv, Finset.sum_singleton, amount_recv]

theorem payload_bar (d : Fin 5) : (rd m ρ).payload (barCell c) 0 d = barPay c d := rfl
theorem payload_send (d : Fin 5) : (rd m ρ).payload (sendCell c s) 0 d = accP c (accV m ρ s c) := by
  show (if IsRecv (sendSem s) then landP m ρ c (slotOf (sendSem s)) else accP c (accV m ρ (slotOf (sendSem s)) c)) = _
  rw [if_neg (not_isRecv_send s), slotOf_send]
theorem payload_recv (d : Fin 5) : (rd m ρ).payload (recvCell c s) 0 d = landP m ρ c s := by
  show (if IsRecv (recvSem s) then landP m ρ c (slotOf (recvSem s)) else accP c (accV m ρ (slotOf (recvSem s)) c)) = _
  rw [if_pos (isRecv_recv s), slotOf_recv]

theorem rest_bar : bigSep ((rd m ρ).duties (barCell c) 0 \ ∅) (fun d => (rd m ρ).payload (barCell c) 0 d) = bigSep Finset.univ fun r => barPay (F := F) c r := by
  rw [Finset.sdiff_empty, duties_bar]; rfl
theorem rest_send : bigSep ((rd m ρ).duties (sendCell c s) 0 \ ∅) (fun d => (rd m ρ).payload (sendCell c s) 0 d) = accP c (accV m ρ s c) := by
  rw [Finset.sdiff_empty, duties_send, bigSep_singleton, payload_send]
theorem rest_recv : bigSep ((rd m ρ).duties (recvCell c s) 0 \ ∅) (fun d => (rd m ρ).payload (recvCell c s) 0 d) = landP m ρ c s := by
  rw [Finset.sdiff_empty, duties_recv, bigSep_singleton, payload_recv]

end Sched

/-! ## What a device owes, and the levels that order the waits -/

/-- The credits of the transfers from exchange `n` on. -/
def owedX (n : ℕ) (c : Dev nD) : CellTallies nD τ sig Unit :=
  ∑ s ∈ Finset.univ.filter (fun s : Fin 15 => n ≤ s.val), tallyAt (recvCell (buddy s c) s) () N
/-- The units of the signals from `k` on. -/
def owedB (k : ℕ) (c : Dev nD) : CellTallies nD τ sig Unit :=
  ∑ r ∈ Finset.univ.filter (fun r : Fin 5 => k ≤ r.val), tallyAt (barCell (peer r c)) () 1
/-- Before signal `k`: the signals from `k` on and every transfer. -/
def owed (k : ℕ) (c : Dev nD) : CellTallies nD τ sig Unit := owedX 0 c + owedB k c

theorem filter_ge_succ {n : ℕ} (s : Fin n) :
    Finset.univ.filter (fun t : Fin n => s.val ≤ t.val) = insert s (Finset.univ.filter fun t : Fin n => s.val + 1 ≤ t.val) := by
  ext t; simp only [Finset.mem_filter, Finset.mem_univ, true_and, Finset.mem_insert, Fin.ext_iff]; omega

theorem owedX_succ (s : Fin 15) (c : Dev nD) : owedX s.val c = owedX (s.val + 1) c + tallyAt (recvCell (buddy s c) s) () N := by
  unfold owedX; rw [filter_ge_succ, Finset.sum_insert (by simp), add_comm]
theorem owed_succ (r : Fin 5) (c : Dev nD) : owed r.val c = owed (r.val + 1) c + tallyAt (barCell (peer r c)) () 1 := by
  unfold owed owedB; rw [filter_ge_succ, Finset.sum_insert (by simp), add_comm (tallyAt _ _ _), add_assoc]
theorem owedX_end (c : Dev nD) : owedX 15 c = 0 := by
  unfold owedX; rw [Finset.filter_false_of_mem fun s _ => by have := s.isLt; omega, Finset.sum_empty]
theorem owed_end (c : Dev nD) : owed 5 c = owedX 0 c := by
  unfold owed owedB; rw [Finset.filter_false_of_mem fun s _ => by have := s.isLt; omega, Finset.sum_empty, add_zero]

def L (g : GSem nD τ sig) : Finset Unit := if g.1.2 = .tc then {()} else ∅
/-- Barrier cells at level 1, the receive cell of exchange `s` at level `2 + s`, staging and send cells at 0. -/
def lv (g : GSem nD τ sig) (_ : Unit) : ℕ := match g.2 with
  | .reg _ => 1
  | .dma q => if IsRecv q then 2 + (slotOf q).val else 0
theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (s : Fin 15) : lv (recvCell c s) () = 2 + s.val := by
  show (if IsRecv (recvSem s) then 2 + (slotOf (recvSem s)).val else 0) = _
  rw [if_pos (isRecv_recv s), slotOf_recv]
theorem lv_send (c : Dev nD) (s : Fin 15) : lv (sendCell c s) () = 0 := if_neg (not_isRecv_send s)
theorem lv_bar (c : Dev nD) : lv (barCell c) () = 1 := rfl

/-- A tally of transfers from exchange `n` on is positive only at the receive cells of those exchanges. -/
theorem owedX_pos {n : ℕ} {c : Dev nD} {g : GSem nD τ sig} {u : Unit} (h : 0 < owedX n c g u) :
    ∃ s : Fin 15, n ≤ s.val ∧ g = recvCell (buddy s c) s := by
  unfold owedX at h
  rw [Finset.sum_apply, Finsupp.finset_sum_apply] at h
  obtain ⟨s, hs, hp⟩ := Finset.exists_ne_zero_of_sum_ne_zero (Nat.pos_iff_ne_zero.mp h)
  rw [tallyAt_apply] at hp
  refine ⟨s, (Finset.mem_filter.mp hs).2, ?_⟩
  by_contra hn; exact hp (if_neg fun h' => hn h'.1)

theorem owed_pos {k : ℕ} {c : Dev nD} {g : GSem nD τ sig} {u : Unit} (h : 0 < owed k c g u) :
    (∃ s : Fin 15, g = recvCell (buddy s c) s) ∨ ∃ r : Fin 5, g = barCell (peer r c) := by
  unfold owed at h
  rw [Pi.add_apply, Finsupp.add_apply] at h
  by_cases hx : 0 < owedX 0 c g u
  · obtain ⟨s, -, hs⟩ := owedX_pos hx; exact .inl ⟨s, hs⟩
  · have hb : 0 < owedB k c g u := by omega
    unfold owedB at hb
    rw [Finset.sum_apply, Finsupp.finset_sum_apply] at hb
    obtain ⟨r, -, hp⟩ := Finset.exists_ne_zero_of_sum_ne_zero (Nat.pos_iff_ne_zero.mp hb)
    rw [tallyAt_apply] at hp
    refine .inr ⟨r, ?_⟩
    by_contra hn; exact hp (if_neg fun h' => hn h'.1)

/-- A device may wait on a cell below level `2 + n` while it owes transfers from exchange `n` on only. -/
theorem mayWait_owedX (c : Dev nD) (sm : SemLoc sig) (n : ℕ) (hl : lv ((c : Thread nD τ), sm) () < 2 + n) :
    (levAts L lv : sProp 𝕄) ⊢ MayWait (c : Thread nD τ) sm () (owedX n c) :=
  MayOwe.of_cut (L := L) (lev := lv) (lv ((c : Thread nD τ), sm) ())
    (fun p hp => by rw [Finset.mem_singleton.mp hp, L_tc]; exact Finset.mem_singleton_self _)
    (fun g u hg => by obtain ⟨s, -, rfl⟩ := owedX_pos hg; exact Finset.mem_singleton_self _)
    (fun p hp => by rw [Finset.mem_singleton.mp hp])
    (fun g u hg => by obtain ⟨s, hs, rfl⟩ := owedX_pos hg; rw [lv_recv]; omega)

/-- A device may wait on a staging cell whatever it owes at launch, and when it owes nothing. -/
theorem mayWait_stage (c : Dev nD) (q : DmaSem sig) (hq : ¬ IsRecv q) (O : CellTallies nD τ sig Unit) (hO : O = owed 0 c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owed_pos hg with ⟨s, rfl⟩ | ⟨r, rfl⟩ <;> exact Finset.mem_singleton_self _)
      (fun p hp => by rw [Finset.mem_singleton.mp hp]; exact le_of_eq (if_neg hq))
      (fun g u hg => by
        rcases owed_pos hg with ⟨s, rfl⟩ | ⟨r, rfl⟩
        · rw [lv_recv]; omega
        · rw [lv_bar]; exact Nat.one_pos)
  · rw [MayWait_zero]; iintro -; iempintro

end Cert.Cube

end
-- ==== Proof.Steps.lean ====
/-
# The kernel's body as three layers of five exchanges

The printed body is one long chain of effects, cut into parts at arbitrary places. Here it is written as what it is:
five signals and a wait, the copy of the input, and three times a layer's head (the partial product), five exchanges
and a layer's tail (the sum copied out). The two are the same program by unfolding.
-/
module

public import proofs.«01_k».proof.Proof.Cube

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Programs over the kernel's effects. -/
abbrev PG (F : FTy → Type) (α : Type) : Type 1 := Prog (TpuEff nD τ sig (Elt F) Λ₀ .tc) α

abbrev r64 : Rect S64x512 := Rect.unit (s := S64x512) ![0, 0] S64x512.size inb_S64x512_S64x512_0_0
abbrev rIn : Rect S512x1024 := Rect.unit (s := S512x1024) ![0, 0] S512x1024.size inb_S512x1024_S512x1024_0_0
abbrev rOut : Rect S1024x512 := Rect.unit (s := S1024x512) ![0, 0] S1024x512.size inb_S1024x512_S1024x512_0_0

/-- The load of a whole 64 × 512 buffer. -/
def ldP (b : Memref sig .tc .vmem S64x512 .f32) : PG F (Vec F S64x512 .f32) :=
  Prog.lift (.load b r64.toLoadRect (View.loadsAt_vmem h_S64x512))
/-- The store of a whole 64 × 512 buffer. -/
def stP (b : Memref sig .tc .vmem S64x512 .f32) (v : Vc F) : PG F PUnit :=
  Prog.lift (.store b r64 v Finset.univ (View.stores_vmem_bits_univ h_S64x512 rfl) (.inl rfl))

/-- The three operations on the wire of exchange `s`: send the running sum to `n`, wait for it to leave, wait for the partner's. -/
def wireP (s : Fin 15) (n : Dev nD) : PG F PUnit := do
  Prog.lift (.enqueueDma aM (.remote (Dev.tc n) (slotM s) (.dma (sendSem s))) (.dma (recvSem s)) (Memref.isWhole_whole _).wordExact
    ((View.wordExact_bits rfl).reshape _ _) ⟨⟨rfl, Or.inl rfl⟩, trivial⟩)
  Prog.lift (.waitDma2 (sendSem s) (slotM s) aM ((View.wordExact_bits rfl).reshape _ _) (Memref.isWhole_whole _).wordExact)
  Prog.lift (.waitDma2 (recvSem s) aM (slotM s) (Memref.isWhole_whole _).wordExact ((View.wordExact_bits rfl).reshape _ _))

/-- The addition of exchange `s`: what landed in the slot is added to the running sum. -/
def addP (s : Fin 15) : PG F PUnit := do
  let a ← ldP aM
  let w : Vec F S1x64x512 .f32 ← Prog.lift (.load rM (slotR s).toLoadRect (View.loadsAt_vmem h_S1x64x512))
  let _ ← ldP aM
  stP aM (k0_pay3 a w)

/-- Exchange `s` with device `n`. -/
def exchP (s : Fin 15) (n : Dev nD) : PG F PUnit := do
  wireP s n
  addP s

/-- A layer's head: the partial product of the layer's input with the device's blocks of its two weight matrices. -/
def headP (bi : Memref sig .tc .vmem S512x1024 .f32) (bo : Memref sig .tc .vmem S1024x512 .f32) : PG F PUnit := do
  let o ← ldP oM
  let wi : Vec F S512x1024 .f32 ← Prog.lift (.load bi rIn.toLoadRect (View.loadsAt_vmem h_S512x1024))
  let wo : Vec F S1024x512 .f32 ← Prog.lift (.load bo rOut.toLoadRect (View.loadsAt_vmem h_S1024x512))
  let _ ← ldP aM
  stP aM (k0_pay2 o wi wo)

/-- A layer's tail: the sum becomes the next layer's input. -/
def tailP : PG F PUnit := do
  let v ← ldP aM
  let _ ← ldP oM
  stP oM v

/-- The five exchanges of a layer whose first one is `s`. -/
def fiveP (s0 s1 s2 s3 s4 : Fin 15) (tgt : Fin 15 → Dev nD) : PG F PUnit := do
  exchP s0 (tgt s0)
  exchP s1 (tgt s1)
  exchP s2 (tgt s2)
  exchP s3 (tgt s3)
  exchP s4 (tgt s4)

/-- One layer. -/
def layerP (bi : Memref sig .tc .vmem S512x1024 .f32) (bo : Memref sig .tc .vmem S1024x512 .f32) (s0 s1 s2 s3 s4 : Fin 15)
    (tgt : Fin 15 → Dev nD) : PG F PUnit := do
  headP bi bo
  fiveP s0 s1 s2 s3 s4 tgt
  tailP

/-- The barrier: a unit to each of the five partners, then a wait for five. -/
def barP (tgt : Fin 5 → Dev nD) : PG F PUnit := do
  semSignalWord (tgt 0) barS 1#32
  semSignalWord (tgt 1) barS 1#32
  semSignalWord (tgt 2) barS 1#32
  semSignalWord (tgt 3) barS 1#32
  semSignalWord (tgt 4) barS 1#32
  semWaitWord barS 5#32

/-- The copy of the staged input into the layers' buffer. -/
def copyP : PG F PUnit := do
  let x ← ldP xM
  let _ ← ldP oM
  stP oM (k0_pay1 x)

theorem sigTo_lt (r : Fin 5) (c : Dev nD) : sigTo r c < nD := by rw [sigTo_eq]; exact (peer r c).isLt
theorem sendTo_lt (s : Fin 15) (c : Dev nD) : sendTo s c < nD := by rw [sendTo_eq]; exact (buddy s c).isLt

/-- The whole body once the device knows its number. -/
def bodyP (d : Dev nD) : PG F PUnit := do
  barP fun r => ⟨sigTo r d, sigTo_lt r d⟩
  copyP
  layerP (Memref.whole cc0_stg1_0) (Memref.whole cc0_stg2_0) 0 1 2 3 4 fun s => ⟨sendTo s d, sendTo_lt s d⟩
  layerP (Memref.whole cc0_stg3_0) (Memref.whole cc0_stg4_0) 5 6 7 8 9 fun s => ⟨sendTo s d, sendTo_lt s d⟩
  layerP (Memref.whole cc0_stg5_0) (Memref.whole cc0_stg6_0) 10 11 12 13 14 fun s => ⟨sendTo s d, sendTo_lt s d⟩

set_option maxRecDepth 65536 in
set_option maxHeartbeats 4000000 in
/-- The printed body is the three layers of five exchanges. -/
theorem body_eq :
    cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _) cc0_scratch2 cc0_scratch3
      = Prog.op .deviceId bodyP := by
  rw [cc0_body_eq_skeleton]
  rfl

end Cert.Cube

end
-- ==== Proof.Rules.lean ====
/-
# One rule for each piece of the body

What a device holds between two pieces of its body, and one rule for each piece: a barrier signal, the barrier's
wait, an exchange. Each is stated once, for any signal and any exchange.
-/
module

public import proofs.«01_k».proof.Proof.Steps

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a piece of `c`'s body. -/
abbrev wpB (c : Dev nD) {α : Type} (p : PG F α) (Q : α → sProp 𝕄) : sProp 𝕄 :=
  wp frame (wpE (defs₀ (F := F)) 𝒱₀ (c : Thread nD τ) none) Set.univ p Q

/-! ## The cells of a device -/

/-- A device's cells: the barrier, and a send and a receive cell for each exchange. -/
abbrev CI : Type := Unit ⊕ (Fin 15 ⊕ Fin 15)
abbrev osem : Fin 15 ⊕ Fin 15 → SemLoc sig
  | .inl s => .dma (sendSem s)
  | .inr s => .dma (recvSem s)
abbrev csem : CI → SemLoc sig
  | .inl _ => .reg barS
  | .inr k => osem k
abbrev kcell (ck : Dev nD × CI) : GSem nD τ sig := ((ck.1 : Thread nD τ), csem ck.2)

abbrev kBar (c : Dev nD) : Dev nD × CI := (c, .inl ())
abbrev kSend (c : Dev nD) (s : Fin 15) : Dev nD × CI := (c, .inr (.inl s))
abbrev kRecv (c : Dev nD) (s : Fin 15) : Dev nD × CI := (c, .inr (.inr s))

/-- What every device knows: every cell's invariant, and that every cell is at round 0 or later. -/
def records (K : Dev nD × CI → ℕ) : sProp 𝕄 :=
  iprop((bigSep Finset.univ fun ck : Dev nD × CI => cellInv ER (rd m ρ) (K ck) (kcell ck))
    ∗ bigSep Finset.univ fun ck : Dev nD × CI => reached ER (kcell ck) 0)

instance records_persistent (K : Dev nD × CI → ℕ) : BI.Persistent (records m ρ K) := by unfold records; infer_instance

theorem records_inv (K : Dev nD × CI → ℕ) (ck : Dev nD × CI) : records m ρ K ⊢ cellInv ER (rd m ρ) (K ck) (kcell ck) := by
  unfold records; exact sep_elim_left.trans (bigSep_elim (Finset.mem_univ ck))
theorem records_reached (K : Dev nD × CI → ℕ) (ck : Dev nD × CI) : records m ρ K ⊢ reached ER (kcell ck) 0 := by
  unfold records; exact sep_elim_right.trans (bigSep_elim (Finset.mem_univ ck))

/-! ## What a device holds -/

variable (K : Dev nD × CI → ℕ)

/-- What it owes, with whatever waits are recorded. -/
def debt (c : Dev nD) (O : CellTallies nD τ sig Unit) : sProp 𝕄 := iprop(∃ W, owes (c : Thread nD τ) O W)

/-- What a device brings to exchange `s`: its places at the two cells, the right to pay its own send cell and its partner's
    receive cell, and the credit of its own receive cell. -/
def toksX (c : Dev nD) (s : Fin 15) : sProp 𝕄 :=
  iprop(atPos ER (sendCell c s) 0 ∅ 0 ∗ atPos ER (recvCell c s) 0 ∅ 0 ∗ dutyTok ER (sendCell c s) 0 (0 : Fin 5)
    ∗ dutyTok ER (recvCell (buddy s c) s) 0 (0 : Fin 5) ∗ cred (tallyAt (recvCell c s) () N))
/-- Before exchange `s`: that, and the partner's landing slot. -/
def todoX (c : Dev nD) (s : Fin 15) : sProp 𝕄 := iprop(toksX c s ∗ freeP (buddy s c) s)
/-- After it: the own landing slot, used, and both cells closed at zero. -/
def doneX (c : Dev nD) (s : Fin 15) : sProp 𝕄 := iprop(freeP c s ∗ semVal (sendCell c s) 0 ∗ semVal (recvCell c s) 0)

/-- The exchanges as exchange `n` begins, with what is owed. -/
def exchSt (c : Dev nD) (n : ℕ) : sProp 𝕄 :=
  iprop((bigSep Finset.univ fun s : Fin 15 => if s.val < n then doneX c s else todoX c s) ∗ debt c (owedX n c))

/-! ## Reading and writing whole buffers -/

omit [FloatOps F] in
theorem hz : (![0, 0] : Fin 2 → Nat) = fun _ => 0 := funext fun a => by fin_cases a <;> rfl

/-- A device's whole buffer `b` holding `f`. -/
abbrev pts (c : Dev nD) (b : Ref sig .tc) (f : Buf (Elt F) ((c : Thread nD τ).loc b)) : sProp 𝕄 := ((c : Thread nD τ).loc b) ↦{fullShare} f

/-! ## The wire of one exchange -/

omit [FloatOps F] in
theorem accP_eq (c : Dev nD) (f : Vc F) :
    (accP c f : sProp 𝕄) = ((aM : Memref sig .tc .vmem S64x512 .f32).view.loc (c : Thread nD τ) ↦[(aM : Memref sig .tc .vmem S64x512 .f32).view.set]{fullShare} f) := by
  unfold accP; rw [View.set_whole]

theorem wp_send_cube (c : Dev nD) (s : Fin 15) (n : Dev nD) (hn : n = buddy s c)
    {hsc : (slotM s : Memref sig (Dev.tc n : Thread nD τ).2.kind .vmem S64x512 .f32).view.ref.isScScratch = false}
    {hsrc : (aM : Memref sig .tc .vmem S64x512 .f32).view.WordExact} {hdst : (slotM s : Memref sig .tc .vmem S64x512 .f32).view.WordExact}
    {hsem : DmaTarget.Typed .vmem (.dma (recvSem s)) (.remote (Dev.tc n : Thread nD τ) (slotM s : Memref sig .tc .vmem S64x512 .f32) (.dma (sendSem s)) hsc)}
    {α : Type} {Q : α → sProp 𝕄} {k : PUnit → PG F α} (fd : Buf (Elt F) ((slotM s).view.loc (buddy s c : Thread nD τ))) (W : Waits sig Unit) :
    iprop(cellInv ER (rd m ρ) (K (kSend c s)) (sendCell c s) ∗ cellInv ER (rd m ρ) (K (kRecv (buddy s c) s)) (recvCell (buddy s c) s)
        ∗ ((aM : Memref sig .tc .vmem S64x512 .f32).view.loc (c : Thread nD τ) ↦[(aM : Memref sig .tc .vmem S64x512 .f32).view.set]{fullShare} accV m ρ s c)
        ∗ ((slotM s).view.loc (buddy s c : Thread nD τ) ↦[(slotM s).view.set]{fullShare} fd)
        ∗ owes (c : Thread nD τ) (owedX s.val c) W
        ∗ dutyTok ER (sendCell c s) 0 (0 : Fin 5) ∗ reached ER (sendCell c s) 0
        ∗ dutyTok ER (recvCell (buddy s c) s) 0 (0 : Fin 5) ∗ reached ER (recvCell (buddy s c) s) 0)
      ⊢ iprop(((cred (tallyAt (sendCell c s) () N) ∗ owes (c : Thread nD τ) (owedX (s.val + 1) c) W) -∗ wpB c (k ⟨⟩) Q)
          -∗ wpB c (.op (.enqueueDma aM (.remote (Dev.tc n : Thread nD τ) (slotM s) (.dma (sendSem s)) hsc) (.dma (recvSem s)) hsrc hdst hsem) k) Q) := by
  subst hn
  exact Rounds.wp_send_pointsTo 𝒱₀ ER (rd m ρ) (c : Thread nD τ) none (κ₁ := K (kSend c s)) (κ₂ := K (kRecv (buddy s c) s))
    (r₁ := 0) (r₂ := 0) (d₁ := (0 : Fin 5)) (d₂ := (0 : Fin 5)) (fd := fd)
    (by rw [duties_send]; exact Finset.mem_singleton_self _) (by rw [duties_recv]; exact Finset.mem_singleton_self _)
    () () N rfl (amount_send m ρ c s 0) (amount_recv m ρ (buddy s c) s 0) (owedX (s.val + 1) c) (owedX_succ s c) (W := W)
    (by rw [payload_send, accP_eq])
    (by rw [payload_recv]; unfold landP owns; rw [buddy_buddy]
        iintro H; iexists _; isplitr; swap; · iexact H
        ipureintro; rw [View.read_write_univ]; rfl)

/-- The wire of exchange `s`: the running sum goes out and comes back, the partner's lands, both cells close. -/
theorem wp_wire (c : Dev nD) (s : Fin 15) (n : Dev nD) (hn : n = buddy s c) (Q : PUnit → sProp 𝕄) :
    iprop(records m ρ K ∗ levAts L lv ∗ accP c (accV m ρ s c) ∗ todoX c s ∗ debt c (owedX s.val c)
        ∗ ((accP c (accV m ρ s c) ∗ landP m ρ c s ∗ (semVal (sendCell c s) 0 ∗ semVal (recvCell c s) 0) ∗ debt c (owedX (s.val + 1) c)) -∗ Q ⟨⟩))
      ⊢ wpB c (wireP (F := F) s n) Q := by
  unfold wireP todoX toksX debt wpB
  simp only [Prog.lift, Prog.bind_op, Prog.bind_ret]
  unfold freeP
  rw [accP_eq]
  iintro ⟨#HR, #Hlev, Ha, ⟨⟨HatS, HatV, HtS, HtV, HcV⟩, ⟨%fd, Hf⟩⟩, ⟨%W, HO⟩, Hk⟩
  iapply (wp_send_cube m ρ K c s n hn fd W) $$ [Ha Hf HO HtS HtV]
  · isplitr; · iapply (records_inv m ρ K (kSend c s)); iexact HR
    isplitr; · iapply (records_inv m ρ K (kRecv (buddy s c) s)); iexact HR
    isplitl [Ha]; · iexact Ha
    isplitl [Hf]; · iexact Hf
    isplitl [HO]; · iexact HO
    isplitl [HtS]; · iexact HtS
    isplitr; · iapply (records_reached m ρ K (kSend c s)); iexact HR
    isplitl [HtV]; · iexact HtV
    iapply (records_reached m ρ K (kRecv (buddy s c) s)); iexact HR
  iintro ⟨HcS, HO⟩
  iapply (Rounds.wp_wait_rest_token 𝒱₀ ER (rd m ρ) (c : Thread nD τ) none (κ := K (kSend c s))
      (wpE_waitDma2_eq 𝒱₀ (c : Thread nD τ) none Set.univ) (Set.mem_univ _) () (O := owedX (s.val + 1) c) (W := W) (R := 0) (m := 0) (T := ∅)
      (by rw [Nat.zero_add, expect_send])) $$ [HcS HO HatS]
  · isplitr; · iapply (records_inv m ρ K (kSend c s)); iexact HR
    isplitl [HcS]; · iexact HcS
    isplitl [HO]; · iexact HO
    isplitr; · iapply (mayWait_owedX c _ _ (by rw [lv_send]; omega)); iexact Hlev
    iexact HatS
  iintro ⟨HO, HatS, -, Hpay⟩
  ihave Ha := (Entails.of_eq ((rest_send m ρ c s).trans (accP_eq c _))) $$ Hpay
  iapply (Rounds.wp_wait_rest_token 𝒱₀ ER (rd m ρ) (c : Thread nD τ) none (κ := K (kRecv c s))
      (wpE_waitDma2_eq 𝒱₀ (c : Thread nD τ) none Set.univ) (Set.mem_univ _) () (O := owedX (s.val + 1) c)
      (W := insert (SemLoc.dma (sendSem s), ()) W) (R := 0) (m := 0) (T := ∅)
      (by rw [Nat.zero_add, expect_recv])) $$ [HcV HO HatV]
  · isplitr; · iapply (records_inv m ρ K (kRecv c s)); iexact HR
    isplitl [HcV]; · iexact HcV
    isplitl [HO]; · iexact HO
    isplitr; · iapply (mayWait_owedX c _ _ (by rw [lv_recv]; omega)); iexact Hlev
    iexact HatV
  iintro ⟨HO, HatV, -, Hpay⟩
  ihave Hl := (Entails.of_eq (rest_recv m ρ c s)) $$ Hpay
  imod (Rounds.cell_close ER (rd m ρ) (Set.mem_univ (K (kSend c s))) (fun h => h) (R := 0 + 1) (duties_later m ρ (sendCell c s))) $$ [HatS] with HzS
  · isplitr; · iapply (records_inv m ρ K (kSend c s)); iexact HR
    iexact HatS
  imod (Rounds.cell_close ER (rd m ρ) (Set.mem_univ (K (kRecv c s))) (fun h => h) (R := 0 + 1) (duties_later m ρ (recvCell c s))) $$ [HatV] with HzV
  · isplitr; · iapply (records_inv m ρ K (kRecv c s)); iexact HR
    iexact HatV
  rw [wp_ret]; imodintro
  iapply Hk
  isplitl [Ha]; · iexact Ha
  isplitl [Hl]; · iexact Hl
  isplitl [HzS HzV]
  · isplitl [HzS] <;> iassumption
  iexists _; iexact HO

/-! ## Loads and stores -/

omit [FloatOps F] in
theorem read_a (f : Vc F) : (aM : Memref sig .tc .vmem S64x512 .f32).view.readAt (Elt F) r64.toLoadRect f = f :=
  Memref.readAt_unit_zero (Elt F) cc0_scratch0 hz _ f
omit [FloatOps F] in
theorem read_o (f : Vc F) : (oM : Memref sig .tc .vmem S64x512 .f32).view.readAt (Elt F) r64.toLoadRect f = f :=
  Memref.readAt_unit_zero (Elt F) cc0_stg7_0 hz _ f
omit [FloatOps F] in
theorem read_x (f : Vc F) : (xM : Memref sig .tc .vmem S64x512 .f32).view.readAt (Elt F) r64.toLoadRect f = f :=
  Memref.readAt_unit_zero (Elt F) cc0_stg0_0 hz _ f
omit [FloatOps F] in
theorem write_a (f w : Vc F) : ((aM : Memref sig .tc .vmem S64x512 .f32).access r64 : View sig .tc _ _ _).write (Elt F) f w Finset.univ = w :=
  Memref.write_access_unit_zero_univ (Elt F) cc0_scratch0 hz _ f w
omit [FloatOps F] in
theorem write_o (f w : Vc F) : ((oM : Memref sig .tc .vmem S64x512 .f32).access r64 : View sig .tc _ _ _).write (Elt F) f w Finset.univ = w :=
  Memref.write_access_unit_zero_univ (Elt F) cc0_stg7_0 hz _ f w

/-- What landed, loaded through the whole landing buffer and laid out as 64 × 512, is what the slot holds. -/
theorem pay3_eq (s : Fin 15) (a : Vc F) (f : Vec F S15x64x512 .f32) :
    k0_pay3 a ((rM : Memref sig .tc .vmem S15x64x512 .f32).view.readAt (Elt F) (slotR s).toLoadRect f) = sumV a ((slotM s).view.read (Elt F) f) := rfl

omit [FloatOps F] in
/-- The elements of slot `s` that the load touches are the slot's. -/
theorem slot_set (s : Fin 15) : (rM : Memref sig .tc .vmem S15x64x512 .f32).view.setOn (slotR s).toLoadRect.set ⊆ (slotM s).view.set := by
  rw [View.set_reshape]
  exact Memref.setOn_subset_slice_of_within _ (slotR s) (fun _ => rfl) _ (by revert s; decide)

/-- The addition of exchange `s`. -/
theorem wp_addP (c : Dev nD) (s : Fin 15) (Q : PUnit → sProp 𝕄) :
    iprop(accP c (accV m ρ s c) ∗ landP m ρ c s ∗ ((accP c (accN m ρ s c) ∗ freeP c s) -∗ Q ⟨⟩)) ⊢ wpB c (addP (F := F) s) Q := by
  unfold addP ldP stP wpB accP landP owns freeP
  simp only [Prog.lift, Prog.bind_op, Prog.bind_ret]
  iintro ⟨Ha, ⟨%f, %hf, Hl⟩, Hk⟩
  iapply (wp_load 𝒱₀ (c : Thread nD τ) none Set.univ (m := aM) (Finset.subset_univ _)) $$ Ha; iintro Ha
  rw [read_a]
  iapply (wp_load 𝒱₀ (c : Thread nD τ) none Set.univ (m := rM) (slot_set s)) $$ Hl; iintro Hl
  iapply (wp_load 𝒱₀ (c : Thread nD τ) none Set.univ (m := aM) (Finset.subset_univ _)) $$ Ha; iintro Ha
  iapply (wp_store 𝒱₀ (c : Thread nD τ) none Set.univ (m := aM) (r := r64) (Mk := Finset.univ) (Finset.subset_univ _)) $$ Ha; iintro Ha
  rw [write_a, wp_ret]; imodintro
  iapply Hk
  isplitl [Ha]
  · rw [show accN m ρ s c = k0_pay3 (accV m ρ s c) ((rM : Memref sig .tc .vmem S15x64x512 .f32).view.readAt (Elt F) (slotR s).toLoadRect f) from by
      rw [pay3_eq, hf]; rfl]
    iexact Ha
  iexists f; iexact Hl

/-- Exchange `s`, with the exchanges before it done and the later ones to do. -/
theorem wp_exchP (c : Dev nD) (s : Fin 15) (n : Dev nD) (hn : n = buddy s c) (Q : PUnit → sProp 𝕄) :
    iprop(records m ρ K ∗ levAts L lv ∗ accP c (accV m ρ s c) ∗ exchSt c s.val
        ∗ ((accP c (accN m ρ s c) ∗ exchSt c (s.val + 1)) -∗ Q ⟨⟩))
      ⊢ wpB c (exchP (F := F) s n) Q := by
  unfold exchP exchSt wpB
  rw [wp_bind]
  iintro ⟨#HR, #Hlev, Ha, ⟨Hs, HO⟩, Hk⟩
  ihave H := (bigSep_univ_update (Ψ := fun t : Fin 15 => if t.val < s.val + 1 then doneX (F := F) c t else todoX c t) s (fun t ht => by
    have : t.val ≠ s.val := fun h => ht (Fin.ext h)
    by_cases h : t.val < s.val
    · rw [if_pos h, if_pos (by omega)]
    · rw [if_neg h, if_neg (by omega)])) $$ Hs
  rw [if_neg (lt_irrefl _), if_pos (Nat.lt_succ_self _)]
  icases H with ⟨Ht, Hback⟩
  iapply (wp_wire m ρ K c s n hn)
  isplitr; · iexact HR
  isplitr; · iexact Hlev
  isplitl [Ha]; · iexact Ha
  isplitl [Ht]; · iexact Ht
  isplitl [HO]; · iexact HO
  iintro ⟨Ha, Hl, Hz, HO⟩
  iapply (wp_addP m ρ c s)
  isplitl [Ha]; · iexact Ha
  isplitl [Hl]; · iexact Hl
  iintro ⟨Ha, Hf⟩
  iapply Hk
  isplitl [Ha]; · iexact Ha
  isplitr [HO]
  · iapply Hback
    unfold doneX
    isplitl [Hf] <;> iassumption
  iexact HO

/-! ## A layer -/

/-- The sum after exchange `s`, among the running sums of its layer. -/
theorem accN_exch (s : Fin 15) (c : Dev nD) :
    accN m ρ s c = exch (part m ρ (s.val / 5) (act m ρ (s.val / 5))) (s.val % 5 + 1) c := by
  have h : (⟨s.val % 5 % 5, Nat.mod_lt _ (by decide)⟩ : Fin 5) = bit s := Fin.ext (Nat.mod_mod _ _)
  show _ = sumV _ (exch _ _ (peer ⟨s.val % 5 % 5, _⟩ c))
  rw [h]; rfl
/-- A layer begins from the partial products, -/
theorem accV_head (s : Fin 15) (l : ℕ) (h : s.val = 5 * l) (c : Dev nD) : accV m ρ s c = part m ρ l (act m ρ l) c := by
  unfold accV; rw [show s.val / 5 = l by omega, show s.val % 5 = 0 by omega]; rfl
/-- goes from exchange to exchange, -/
theorem accN_step (s t : Fin 15) (h : t.val = s.val + 1) (h' : s.val % 5 + 1 < 5) (c : Dev nD) : accN m ρ s c = accV m ρ t c := by
  rw [accN_exch]; unfold accV; rw [show t.val / 5 = s.val / 5 by omega, show t.val % 5 = s.val % 5 + 1 by omega]
/-- and ends with the next layer's input. -/
theorem accN_last (s : Fin 15) (l : ℕ) (h : s.val = 5 * l + 4) (c : Dev nD) : accN m ρ s c = act m ρ (l + 1) c := by
  rw [accN_exch, show s.val / 5 = l by omega, show s.val % 5 + 1 = 5 by omega]; rfl

/-- The five exchanges of layer `l`: the partial products become the next layer's input. -/
theorem wp_fiveP (c : Dev nD) (l : ℕ) (s0 s1 s2 s3 s4 : Fin 15) (h0 : s0.val = 5 * l) (h1 : s1.val = s0.val + 1) (h2 : s2.val = s1.val + 1)
    (h3 : s3.val = s2.val + 1) (h4 : s4.val = s3.val + 1) (tgt : Fin 15 → Dev nD) (ht : ∀ s, tgt s = buddy s c) (Q : PUnit → sProp 𝕄) :
    iprop(records m ρ K ∗ levAts L lv ∗ accP c (part m ρ l (act m ρ l) c) ∗ exchSt c (5 * l)
        ∗ ((accP c (act m ρ (l + 1) c) ∗ exchSt c (5 * (l + 1))) -∗ Q ⟨⟩))
      ⊢ wpB c (fiveP (F := F) s0 s1 s2 s3 s4 tgt) Q := by
  rw [← accV_head m ρ s0 l h0, ← h0, ← accN_last m ρ s4 l (by omega), show 5 * (l + 1) = s4.val + 1 by omega]
  unfold fiveP wpB
  simp only [wp_bind]
  iintro ⟨#HR, #Hlev, Ha, Hs, Hk⟩
  iapply (wp_exchP m ρ K c s0 _ (ht s0))
  isplitr; · iexact HR
  isplitr; · iexact Hlev
  isplitl [Ha]; · iexact Ha
  isplitl [Hs]; · iexact Hs
  rw [accN_step m ρ s0 s1 h1 (by omega), ← h1]
  iintro ⟨Ha, Hs⟩
  iapply (wp_exchP m ρ K c s1 _ (ht s1))
  isplitr; · iexact HR
  isplitr; · iexact Hlev
  isplitl [Ha]; · iexact Ha
  isplitl [Hs]; · iexact Hs
  rw [accN_step m ρ s1 s2 h2 (by omega), ← h2]
  iintro ⟨Ha, Hs⟩
  iapply (wp_exchP m ρ K c s2 _ (ht s2))
  isplitr; · iexact HR
  isplitr; · iexact Hlev
  isplitl [Ha]; · iexact Ha
  isplitl [Hs]; · iexact Hs
  rw [accN_step m ρ s2 s3 h3 (by omega), ← h3]
  iintro ⟨Ha, Hs⟩
  iapply (wp_exchP m ρ K c s3 _ (ht s3))
  isplitr; · iexact HR
  isplitr; · iexact Hlev
  isplitl [Ha]; · iexact Ha
  isplitl [Hs]; · iexact Hs
  rw [accN_step m ρ s3 s4 h4 (by omega), ← h4]
  iintro ⟨Ha, Hs⟩
  iapply (wp_exchP m ρ K c s4 _ (ht s4))
  isplitr; · iexact HR
  isplitr; · iexact Hlev
  isplitl [Ha]; · iexact Ha
  isplitl [Hs]; · iexact Hs
  iexact Hk

/-- A layer's head: from the layer's input and the two blocks of weights, the partial product. -/
theorem wp_headP (c : Dev nD) (bi : Memref sig .tc .vmem S512x1024 .f32) (bo : Memref sig .tc .vmem S1024x512 .f32)
    (o : Vc F) (wi : Vec F S512x1024 .f32) (wo : Vec F S1024x512 .f32)
    (fi : Buf (Elt F) (bi.view.loc (c : Thread nD τ))) (fo : Buf (Elt F) (bo.view.loc (c : Thread nD τ)))
    (hi : bi.view.readAt (Elt F) rIn.toLoadRect fi = wi) (ho : bo.view.readAt (Elt F) rOut.toLoadRect fo = wo) (Q : PUnit → sProp 𝕄) :
    iprop(pts c cc0_stg7_0 o ∗ (bi.view.loc (c : Thread nD τ) ↦{fullShare} fi) ∗ (bo.view.loc (c : Thread nD τ) ↦{fullShare} fo) ∗ (∃ f, accP c f)
        ∗ ((pts c cc0_stg7_0 o ∗ (bi.view.loc (c : Thread nD τ) ↦{fullShare} fi) ∗ (bo.view.loc (c : Thread nD τ) ↦{fullShare} fo)
              ∗ accP c (k0_pay2 o wi wo)) -∗ Q ⟨⟩))
      ⊢ wpB c (headP (F := F) bi bo) Q := by
  subst hi ho
  unfold headP ldP stP wpB accP
  simp only [Prog.lift, Prog.bind_op, Prog.bind_ret]
  iintro ⟨Ho, Hi, Hw, ⟨%f, Ha⟩, Hk⟩
  iapply (wp_load 𝒱₀ (c : Thread nD τ) none Set.univ (m := oM) (Finset.subset_univ _)) $$ Ho; iintro Ho
  rw [read_o]
  iapply (wp_load 𝒱₀ (c : Thread nD τ) none Set.univ (m := bi) (Finset.subset_univ _)) $$ Hi; iintro Hi
  iapply (wp_load 𝒱₀ (c : Thread nD τ) none Set.univ (m := bo) (Finset.subset_univ _)) $$ Hw; iintro Hw
  iapply (wp_load 𝒱₀ (c : Thread nD τ) none Set.univ (m := aM) (Finset.subset_univ _)) $$ Ha; iintro Ha
  iapply (wp_store 𝒱₀ (c : Thread nD τ) none Set.univ (m := aM) (r := r64) (Mk := Finset.univ) (Finset.subset_univ _)) $$ Ha; iintro Ha
  rw [write_a, wp_ret]; imodintro
  iapply Hk
  isplitl [Ho]; · iexact Ho
  isplitl [Hi]; · iexact Hi
  isplitl [Hw]; · iexact Hw
  iexact Ha

/-- A layer's tail: the sum becomes the next layer's input. -/
theorem wp_tailP (c : Dev nD) (o v : Vc F) (Q : PUnit → sProp 𝕄) :
    iprop(pts c cc0_stg7_0 o ∗ accP c v ∗ ((pts c cc0_stg7_0 v ∗ accP c v) -∗ Q ⟨⟩)) ⊢ wpB c (tailP (F := F)) Q := by
  unfold tailP ldP stP wpB accP
  simp only [Prog.lift, Prog.bind_op, Prog.bind_ret]
  iintro ⟨Ho, Ha, Hk⟩
  iapply (wp_load 𝒱₀ (c : Thread nD τ) none Set.univ (m := aM) (Finset.subset_univ _)) $$ Ha; iintro Ha
  rw [read_a]
  iapply (wp_load 𝒱₀ (c : Thread nD τ) none Set.univ (m := oM) (Finset.subset_univ _)) $$ Ho; iintro Ho
  iapply (wp_store 𝒱₀ (c : Thread nD τ) none Set.univ (m := oM) (r := r64) (Mk := Finset.univ) (Finset.subset_univ _)) $$ Ho; iintro Ho
  rw [write_o, wp_ret]; imodintro
  iapply Hk
  isplitl [Ho]; · iexact Ho
  iexact Ha

/-- A layer, from its input and the two blocks of weights: every device's buffer holds the next layer's input. -/
theorem wp_layerP (c : Dev nD) (l : ℕ) (bi : Memref sig .tc .vmem S512x1024 .f32) (bo : Memref sig .tc .vmem S1024x512 .f32)
    (fi : Buf (Elt F) (bi.view.loc (c : Thread nD τ))) (fo : Buf (Elt F) (bo.view.loc (c : Thread nD τ)))
    (hp : k0_pay2 (act m ρ l c) (bi.view.readAt (Elt F) rIn.toLoadRect fi) (bo.view.readAt (Elt F) rOut.toLoadRect fo) = part m ρ l (act m ρ l) c)
    (s0 s1 s2 s3 s4 : Fin 15) (h0 : s0.val = 5 * l) (h1 : s1.val = s0.val + 1) (h2 : s2.val = s1.val + 1)
    (h3 : s3.val = s2.val + 1) (h4 : s4.val = s3.val + 1) (tgt : Fin 15 → Dev nD) (ht : ∀ s, tgt s = buddy s c) (Q : PUnit → sProp 𝕄) :
    iprop(records m ρ K ∗ levAts L lv ∗ pts c cc0_stg7_0 (act m ρ l c) ∗ (bi.view.loc (c : Thread nD τ) ↦{fullShare} fi)
        ∗ (bo.view.loc (c : Thread nD τ) ↦{fullShare} fo) ∗ (∃ f, accP c f) ∗ exchSt c (5 * l)
        ∗ ((pts c cc0_stg7_0 (act m ρ (l + 1) c) ∗ (bi.view.loc (c : Thread nD τ) ↦{fullShare} fi)
              ∗ (bo.view.loc (c : Thread nD τ) ↦{fullShare} fo) ∗ (∃ f, accP c f) ∗ exchSt c (5 * (l + 1))) -∗ Q ⟨⟩))
      ⊢ wpB c (layerP (F := F) bi bo s0 s1 s2 s3 s4 tgt) Q := by
  unfold layerP wpB
  simp only [wp_bind]
  iintro ⟨#HR, #Hlev, Ho, Hi, Hw, Ha, Hs, Hk⟩
  iapply (wp_headP c bi bo (act m ρ l c) _ _ fi fo rfl rfl)
  isplitl [Ho]; · iexact Ho
  isplitl [Hi]; · iexact Hi
  isplitl [Hw]; · iexact Hw
  isplitl [Ha]; · iexact Ha
  rw [hp]
  iintro ⟨Ho, Hi, Hw, Ha⟩
  iapply (wp_fiveP m ρ K c l s0 s1 s2 s3 s4 h0 h1 h2 h3 h4 tgt ht)
  isplitr; · iexact HR
  isplitr; · iexact Hlev
  isplitl [Ha]; · iexact Ha
  isplitl [Hs]; · iexact Hs
  iintro ⟨Ha, Hs⟩
  iapply (wp_tailP c (act m ρ l c) (act m ρ (l + 1) c))
  isplitl [Ho]; · iexact Ho
  isplitl [Ha]; · iexact Ha
  iintro ⟨Ho, Ha⟩
  iapply Hk
  isplitl [Ho]; · iexact Ho
  isplitl [Hi]; · iexact Hi
  isplitl [Hw]; · iexact Hw
  isplitl [Ha]; · iexists _; iexact Ha
  iexact Hs

/-- The copy of the staged input. -/
theorem wp_copyP (c : Dev nD) (x o : Vc F) (Q : PUnit → sProp 𝕄) :
    iprop(pts c cc0_stg0_0 x ∗ pts c cc0_stg7_0 o ∗ ((pts c cc0_stg0_0 x ∗ pts c cc0_stg7_0 (k0_pay1 x)) -∗ Q ⟨⟩)) ⊢ wpB c (copyP (F := F)) Q := by
  unfold copyP ldP stP wpB
  simp only [Prog.lift, Prog.bind_op, Prog.bind_ret]
  iintro ⟨Hx, Ho, Hk⟩
  iapply (wp_load 𝒱₀ (c : Thread nD τ) none Set.univ (m := xM) (Finset.subset_univ _)) $$ Hx; iintro Hx
  rw [read_x]
  iapply (wp_load 𝒱₀ (c : Thread nD τ) none Set.univ (m := oM) (Finset.subset_univ _)) $$ Ho; iintro Ho
  iapply (wp_store 𝒱₀ (c : Thread nD τ) none Set.univ (m := oM) (r := r64) (Mk := Finset.univ) (Finset.subset_univ _)) $$ Ho; iintro Ho
  rw [write_o, wp_ret]; imodintro
  iapply Hk
  isplitl [Hx]; · iexact Hx
  iexact Ho

/-! ## The barrier -/

omit [FloatOps F] in
/-- A family over the exchanges, bit by bit. -/
theorem bigSep_by_bit (Φ : Fin 15 → sProp 𝕄) :
    bigSep Finset.univ Φ = bigSep Finset.univ fun r : Fin 5 => bigSep (Finset.univ.filter fun s => bit s = r) Φ := by
  rw [Idealize.SL.BI.bigSep_fiberwise Finset.univ bit Φ, show Finset.univ.image bit = Finset.univ from by decide]

omit [FloatOps F] in
/-- A family over the five bits, written out. -/
theorem bigSep_bits (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- What signal `r` takes: the right to pay the partner's barrier, and the own landing slots of bit `r`. -/
def sigSt (c : Dev nD) (r : Fin 5) : sProp 𝕄 :=
  iprop(dutyTok ER (barCell (peer r c)) 0 r ∗ bigSep (Finset.univ.filter fun s => bit s = r) fun s => freeP c s)

/-- Signal `r`. -/
theorem wp_sig (c : Dev nD) (r : Fin 5) (n : Dev nD) (hn : n = peer r c) (Q : PUnit → sProp 𝕄) :
    iprop(records m ρ K ∗ sigSt c r ∗ debt c (owed r.val c) ∗ (debt c (owed (r.val + 1) c) -∗ Q ⟨⟩))
      ⊢ wpB c (semSignalWord n barS 1#32 : PG F PUnit) Q := by
  subst hn
  unfold sigSt debt wpB
  simp only [semSignalWord, Prog.lift, Prog.bind_op, Prog.bind_ret]
  iintro ⟨#HR, ⟨Ht, Hf⟩, ⟨%W, HO⟩, Hk⟩
  iapply (Rounds.wp_signal 𝒱₀ ER (rd m ρ) (c : Thread nD τ) none (dst := (peer r c : Thread nD τ)) (κ := K (kBar (peer r c)))
      (d := r) (by rw [duties_bar]; exact Finset.mem_univ _) ((amount_bar m ρ (peer r c) r).trans (by decide)) () (owed (r.val + 1) c) (owed_succ r c))
    $$ [HO Ht Hf]
  · isplitr; · iapply (records_inv m ρ K (kBar (peer r c))); iexact HR
    isplitl [HO]; · iexact HO
    isplitl [Ht]; · iexact Ht
    isplitl [Hf]
    · rw [payload_bar]; unfold barPay; rw [peer_peer]; iexact Hf
    iapply (records_reached m ρ K (kBar (peer r c))); iexact HR
  iintro HO
  rw [wp_ret]; imodintro
  iapply Hk
  iexists W; iexact HO

/-- The barrier: the own landing slots go out, the partners' come in, and the barrier cell closes. -/
theorem wp_barP (c : Dev nD) (tgt : Fin 5 → Dev nD) (ht : ∀ r, tgt r = peer r c) (Q : PUnit → sProp 𝕄) :
    iprop(records m ρ K ∗ levAts L lv ∗ (bigSep Finset.univ fun r : Fin 5 => dutyTok ER (barCell (peer r c)) 0 r)
        ∗ (bigSep Finset.univ fun s : Fin 15 => freeP c s) ∗ atPos ER (barCell c) 0 ∅ 0 ∗ cred (tallyAt (barCell c) () 5) ∗ debt c (owed 0 c)
        ∗ (((bigSep Finset.univ fun s : Fin 15 => freeP (buddy s c) s) ∗ semVal (barCell c) 0 ∗ debt c (owedX 0 c)) -∗ Q ⟨⟩))
      ⊢ wpB c (barP (F := F) tgt) Q := by
  have hin : iprop((bigSep Finset.univ fun r : Fin 5 => dutyTok ER (barCell (peer r c)) 0 r)
      ∗ (bigSep Finset.univ fun s : Fin 15 => freeP c s)) = (bigSep Finset.univ fun r : Fin 5 => sigSt c r : sProp 𝕄) := by
    rw [bigSep_by_bit, ← bigSep_sep']; rfl
  have hout : (bigSep Finset.univ fun r : Fin 5 => barPay c r : sProp 𝕄) = bigSep Finset.univ fun s : Fin 15 => freeP (buddy s c) s := by
    rw [bigSep_by_bit]
    exact bigSep_congr fun r _ => bigSep_congr fun s hs => by rw [buddy, (Finset.mem_filter.mp hs).2]
  unfold barP wpB
  simp only [wp_bind]
  iintro ⟨#HR, #Hlev, Ht, Hf, Hat, Hc, HO, Hk⟩
  ihave Hs := (Entails.of_eq (hin.trans (bigSep_bits (F := F) (sigSt c)))) $$ [Ht Hf]
  · isplitl [Ht] <;> iassumption
  icases Hs with ⟨H0, H1, H2, H3, H4⟩
  iapply (wp_sig m ρ K c 0 _ (ht 0))
  isplitr; · iexact HR
  isplitl [H0]; · iexact H0
  isplitl [HO]; · iexact HO
  iintro HO
  iapply (wp_sig m ρ K c 1 _ (ht 1))
  isplitr; · iexact HR
  isplitl [H1]; · iexact H1
  isplitl [HO]; · iexact HO
  iintro HO
  iapply (wp_sig m ρ K c 2 _ (ht 2))
  isplitr; · iexact HR
  isplitl [H2]; · iexact H2
  isplitl [HO]; · iexact HO
  iintro HO
  iapply (wp_sig m ρ K c 3 _ (ht 3))
  isplitr; · iexact HR
  isplitl [H3]; · iexact H3
  isplitl [HO]; · iexact HO
  iintro HO
  iapply (wp_sig m ρ K c 4 _ (ht 4))
  isplitr; · iexact HR
  isplitl [H4]; · iexact H4
  isplitl [HO]; · iexact HO
  iintro HO
  ihave HO' := (Entails.of_eq (show debt (F := F) c (owed ((4 : Fin 5).val + 1) c) = debt c (owedX 0 c) from congrArg (debt (F := F) c) (owed_end c))) $$ HO
  unfold debt
  icases HO' with ⟨%W, HO⟩
  simp only [semWaitWord, Prog.lift, Prog.bind_op, Prog.bind_ret]
  iapply (Rounds.wp_wait_rest_token 𝒱₀ ER (rd m ρ) (c : Thread nD τ) none (κ := K (kBar c))
      (wpE_semWait_eq 𝒱₀ (c : Thread nD τ) none Set.univ) (Set.mem_univ _) () (O := owedX 0 c) (W := W) (R := 0) (m := 0) (T := ∅)
      (by rw [expect_bar]; decide)) $$ [Hc HO Hat]
  · isplitr; · iapply (records_inv m ρ K (kBar c)); iexact HR
    isplitl [Hc]; · iexact Hc
    isplitl [HO]; · iexact HO
    isplitr; · iapply (mayWait_owedX c _ _ (by rw [lv_bar]; omega)); iexact Hlev
    iexact Hat
  iintro ⟨HO, Hat, -, Hpay⟩
  ihave Hp := (Entails.of_eq ((rest_bar m ρ c).trans hout)) $$ Hpay
  imod (Rounds.cell_close ER (rd m ρ) (Set.mem_univ (K (kBar c))) (fun h => h) (R := 0 + 1) (duties_later m ρ (barCell c))) $$ [Hat] with Hz
  · isplitr; · iapply (records_inv m ρ K (kBar c)); iexact HR
    iexact Hat
  rw [wp_ret]; imodintro
  iapply Hk
  isplitl [Hp]; · iexact Hp
  isplitl [Hz]; · iexact Hz
  iexists _; iexact HO

end Cert.Cube

end
-- ==== Proof.Body.lean ====
/-
# A device's whole body

From what the launch hands a device to what it hands back: the barrier, the copy, three layers. The landing buffer is
cut into its fifteen slots before the body and joined again after it.
-/
module

public import proofs.«01_k».proof.Proof.Rules

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The landing buffer and its slots -/

/-- The elements of slot `s`. -/
abbrev slotSet (s : Fin 15) : Finset S15x64x512.Idx := (slotR s).set

theorem slot_view_set (s : Fin 15) : (slotM s).view.set = slotSet s := by
  show ((rM.view.slice (slotR s)).reshape S64x512 _).set = _
  rw [View.set_reshape]; exact View.set_slice_whole _ _

theorem slots_disjoint : ∀ s s' : Fin 15, s ≠ s' → Disjoint (slotSet s) (slotSet s') :=
  Ring.lead_disjoint (s := S15x64x512) (0 : Fin 3) 1 (fun s : Fin 15 => ![s.val, 0, 0]) S1x64x512.size inb_slot (fun b => (Nat.one_mul _).symm) rfl

theorem slots_cover : Finset.univ.biUnion slotSet = Finset.univ :=
  Ring.lead_cover (s := S15x64x512) (0 : Fin 3) 1 (fun s : Fin 15 => ![s.val, 0, 0]) S1x64x512.size inb_slot (fun b => (Nat.one_mul _).symm)
    (fun b a ha => by fin_cases a <;> first | rfl | exact absurd rfl ha) rfl (fun a ha => by fin_cases a <;> first | rfl | exact absurd rfl ha) rfl

omit [FloatOps F] in
theorem freeP_eq (c : Dev nD) (s : Fin 15) :
    (freeP c s : sProp 𝕄) = iprop(∃ f : Buf (Elt F) ((c : Thread nD τ).loc cc0_scratch1), ((c : Thread nD τ).loc cc0_scratch1) ↦[slotSet s]{fullShare} f) := by
  unfold freeP; rw [slot_view_set]

omit [FloatOps F] in
theorem freeP_intro (c : Dev nD) (s : Fin 15) (f : Buf (Elt F) ((c : Thread nD τ).loc cc0_scratch1)) :
    (((c : Thread nD τ).loc cc0_scratch1) ↦[slotSet s]{fullShare} f : sProp 𝕄) ⊢ freeP c s := by
  rw [freeP_eq]
  exact exists_intro (Φ := fun f : Buf (Elt F) ((c : Thread nD τ).loc cc0_scratch1) => (((c : Thread nD τ).loc cc0_scratch1) ↦[slotSet s]{fullShare} f : sProp 𝕄)) f

omit [FloatOps F] in
/-- The landing buffer, slot by slot; -/
theorem slots_split (c : Dev nD) (f : Buf (Elt F) ((c : Thread nD τ).loc cc0_scratch1)) :
    (pts c cc0_scratch1 f : sProp 𝕄) ⊢ bigSep Finset.univ fun s : Fin 15 => freeP c s := by
  unfold pts
  rw [Ring.pointsTo_blocks (ℓ := (c : Thread nD τ).loc cc0_scratch1) slotSet slots_disjoint slots_cover f]
  exact bigSep_mono fun s _ => freeP_intro c s f

omit [FloatOps F] in
/-- and joined again. -/
theorem slots_join (c : Dev nD) (f₀ : Buf (Elt F) ((c : Thread nD τ).loc cc0_scratch1)) :
    (bigSep Finset.univ fun s : Fin 15 => freeP c s : sProp 𝕄) ⊢ iprop(∃ f, pts c cc0_scratch1 f) := by
  rw [bigSep_congr (s := Finset.univ) fun s _ => freeP_eq (F := F) c s]
  unfold pts
  exact Ring.pointsTo_blocks_join_exists (ℓ := (c : Thread nD τ).loc cc0_scratch1) slotSet slots_disjoint slots_cover f₀

/-! ## The body -/

variable (K : Dev nD × CI → ℕ)

/-- What stays with device `c` of the exchange's bookkeeping: its places, and the rights to pay what it pays. -/
def linear (c : Dev nD) : sProp 𝕄 :=
  iprop((atPos ER (barCell c) 0 ∅ 0 ∗ (bigSep Finset.univ fun s => atPos ER (sendCell c s) 0 ∅ 0) ∗ bigSep Finset.univ fun s => atPos ER (recvCell c s) 0 ∅ 0)
    ∗ (bigSep Finset.univ fun r : Fin 5 => dutyTok ER (barCell (peer r c)) 0 r)
    ∗ (bigSep Finset.univ fun s => dutyTok ER (sendCell c s) 0 (0 : Fin 5))
    ∗ bigSep Finset.univ fun s => dutyTok ER (recvCell (buddy s c) s) 0 (0 : Fin 5))

/-- The credits a device is launched with. -/
def credits (c : Dev nD) : sProp 𝕄 := iprop(cred (tallyAt (barCell c) () 5) ∗ bigSep Finset.univ fun s => cred (tallyAt (recvCell c s) () N))

/-- Everything the body is given besides its staging buffers and its debt. -/
def start (c : Dev nD) : sProp 𝕄 := iprop((∃ K, records m ρ K ∗ linear c) ∗ credits c ∗ levAts L lv)
def Φ₀ (c : Dev nD) : sProp 𝕄 := iprop(start m ρ c ∗ (∃ f, accP c f) ∗ ∃ f, pts c cc0_scratch1 f)
/-- Everything it hands back: the two scratch buffers, and every cell of its own at zero. -/
def Φ₁ (c : Dev nD) : sProp 𝕄 :=
  iprop((∃ f, accP c f) ∗ (∃ f, pts c cc0_scratch1 f) ∗ semVal (barCell c) 0
    ∗ (bigSep Finset.univ fun s => semVal (sendCell c s) 0) ∗ bigSep Finset.univ fun s => semVal (recvCell c s) 0)

/-- The staged inputs. -/
def staged (c : Dev nD) : sProp 𝕄 :=
  iprop(pts c cc0_stg0_0 (xV m ρ c) ∗ pts c cc0_stg1_0 (inV m ρ 0 c) ∗ pts c cc0_stg2_0 (outV m ρ 0 c) ∗ pts c cc0_stg3_0 (inV m ρ 1 c)
    ∗ pts c cc0_stg4_0 (outV m ρ 1 c) ∗ pts c cc0_stg5_0 (inV m ρ 2 c) ∗ pts c cc0_stg6_0 (outV m ρ 2 c))

/-- The body, from start to end. -/
theorem sound_body (c : Dev nD) (Kt : PUnit → sProp 𝕄) :
    iprop(Φ₀ m ρ c ∗ debt c (owed 0 c) ∗ staged m ρ c ∗ (∃ o, pts c cc0_stg7_0 o)
        ∗ ((Φ₁ c ∗ debt c 0 ∗ staged m ρ c ∗ pts c cc0_stg7_0 (act m ρ 3 c)) -∗ Kt ⟨⟩))
      ⊢ wpB c (cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _) cc0_scratch2 cc0_scratch3) Kt := by
  have hsig (r : Fin 5) : (⟨sigTo r c, sigTo_lt r c⟩ : Dev nD) = peer r c := Fin.ext (sigTo_eq r c)
  have hsend (s : Fin 15) : (⟨sendTo s c, sendTo_lt s c⟩ : Dev nD) = buddy s c := Fin.ext (sendTo_eq s c)
  have htodo : iprop((bigSep Finset.univ fun s : Fin 15 => atPos ER (sendCell c s) 0 ∅ 0) ∗ (bigSep Finset.univ fun s => atPos ER (recvCell c s) 0 ∅ 0)
        ∗ (bigSep Finset.univ fun s => dutyTok ER (sendCell c s) 0 (0 : Fin 5)) ∗ (bigSep Finset.univ fun s => dutyTok ER (recvCell (buddy s c) s) 0 (0 : Fin 5))
        ∗ (bigSep Finset.univ fun s => cred (tallyAt (recvCell c s) () N)) ∗ (bigSep Finset.univ fun s => freeP (buddy s c) s))
      ⊢ (bigSep Finset.univ fun s : Fin 15 => if s.val < 5 * 0 then doneX c s else todoX c s : sProp 𝕄) := by
    rw [bigSep_congr (s := Finset.univ) (Φ := fun s : Fin 15 => if s.val < 5 * 0 then doneX (F := F) c s else todoX c s) (Ψ := todoX c) fun s _ => if_neg (by omega)]
    unfold todoX toksX
    simp only [bigSep_sep']
    iintro ⟨H1, H2, H3, H4, H5, H6⟩
    isplitr [H6]; swap; · iexact H6
    isplitl [H1]; · iexact H1
    isplitl [H2]; · iexact H2
    isplitl [H3]; · iexact H3
    isplitl [H4] <;> iassumption
  have hdone : (bigSep Finset.univ fun s : Fin 15 => if s.val < 5 * (2 + 1) then doneX c s else todoX c s : sProp 𝕄)
      ⊢ iprop((bigSep Finset.univ fun s => freeP c s) ∗ (bigSep Finset.univ fun s => semVal (sendCell c s) 0) ∗ bigSep Finset.univ fun s => semVal (recvCell c s) 0) := by
    rw [bigSep_congr (s := Finset.univ) (Φ := fun s : Fin 15 => if s.val < 5 * (2 + 1) then doneX (F := F) c s else todoX c s) (Ψ := doneX c)
      fun s _ => if_pos (by have := s.isLt; omega)]
    unfold doneX
    simp only [bigSep_sep']; exact BI.Entails.refl _
  rw [body_eq]
  unfold wpB
  rw [wp_deviceId]
  unfold bodyP
  simp only [wp_bind]
  unfold Φ₀ start linear credits staged
  iintro ⟨⟨⟨⟨%K, #HR, ⟨HaB, HaS, HaV⟩, HtB, HtS, HtV⟩, ⟨HcB, HcV⟩, #Hlev⟩, Ha, ⟨%f, Hr⟩⟩, HO, ⟨Hx, H1, H2, H3, H4, H5, H6⟩, ⟨%o, Ho⟩, Hk⟩
  ihave Hfree := (slots_split (F := F) c f) $$ Hr
  iapply (wp_barP m ρ K c _ hsig)
  isplitr; · iexact HR
  isplitr; · iexact Hlev
  isplitl [HtB]; · iexact HtB
  isplitl [Hfree]; · iexact Hfree
  isplitl [HaB]; · iexact HaB
  isplitl [HcB]; · iexact HcB
  isplitl [HO]; · iexact HO
  iintro ⟨Hfree, HzB, HO⟩
  iapply (wp_copyP c (xV m ρ c) o)
  isplitl [Hx]; · iexact Hx
  isplitl [Ho]; · iexact Ho
  iintro ⟨Hx, Ho⟩
  ihave Htodo := htodo $$ [HaS HaV HtS HtV HcV Hfree]
  · isplitl [HaS]; · iexact HaS
    isplitl [HaV]; · iexact HaV
    isplitl [HtS]; · iexact HtS
    isplitl [HtV]; · iexact HtV
    isplitl [HcV] <;> iassumption
  iapply (wp_layerP m ρ K c 0 (Memref.whole cc0_stg1_0) (Memref.whole cc0_stg2_0) (inV m ρ 0 c) (outV m ρ 0 c) (congrArg₂ (k0_pay2 _)
      (Memref.readAt_unit_zero (Elt F) cc0_stg1_0 hz _ _) (Memref.readAt_unit_zero (Elt F) cc0_stg2_0 hz _ _))
    0 1 2 3 4 rfl rfl rfl rfl rfl _ hsend)
  isplitr; · iexact HR
  isplitr; · iexact Hlev
  isplitl [Ho]; · iexact Ho
  isplitl [H1]; · iexact H1
  isplitl [H2]; · iexact H2
  isplitl [Ha]; · iexact Ha
  isplitl [Htodo HO]
  · unfold exchSt; isplitl [Htodo] <;> iassumption
  iintro ⟨Ho, H1, H2, Ha, Hs⟩
  iapply (wp_layerP m ρ K c 1 (Memref.whole cc0_stg3_0) (Memref.whole cc0_stg4_0) (inV m ρ 1 c) (outV m ρ 1 c) (congrArg₂ (k0_pay2 _)
      (Memref.readAt_unit_zero (Elt F) cc0_stg3_0 hz _ _) (Memref.readAt_unit_zero (Elt F) cc0_stg4_0 hz _ _))
    5 6 7 8 9 rfl rfl rfl rfl rfl _ hsend)
  isplitr; · iexact HR
  isplitr; · iexact Hlev
  isplitl [Ho]; · iexact Ho
  isplitl [H3]; · iexact H3
  isplitl [H4]; · iexact H4
  isplitl [Ha]; · iexact Ha
  isplitl [Hs]; · iexact Hs
  iintro ⟨Ho, H3, H4, Ha, Hs⟩
  iapply (wp_layerP m ρ K c 2 (Memref.whole cc0_stg5_0) (Memref.whole cc0_stg6_0) (inV m ρ 2 c) (outV m ρ 2 c) (congrArg₂ (k0_pay2 _)
      (Memref.readAt_unit_zero (Elt F) cc0_stg5_0 hz _ _) (Memref.readAt_unit_zero (Elt F) cc0_stg6_0 hz _ _))
    10 11 12 13 14 rfl rfl rfl rfl rfl _ hsend)
  isplitr; · iexact HR
  isplitr; · iexact Hlev
  isplitl [Ho]; · iexact Ho
  isplitl [H5]; · iexact H5
  isplitl [H6]; · iexact H6
  isplitl [Ha]; · iexact Ha
  isplitl [Hs]; · iexact Hs
  iintro ⟨Ho, H5, H6, Ha, Hs⟩
  unfold exchSt
  icases Hs with ⟨Hs, HO⟩
  ihave Hd := hdone $$ Hs
  icases Hd with ⟨Hfree, HzS, HzV⟩
  ihave Hr := (slots_join (F := F) c f) $$ Hfree
  ihave HO' := (Entails.of_eq (show debt (F := F) c (owedX (5 * (2 + 1)) c) = debt c 0 from congrArg (debt (F := F) c) (owedX_end c))) $$ HO
  iapply Hk
  unfold Φ₁
  isplitl [Ha Hr HzB HzS HzV]
  · isplitl [Ha]; · iexact Ha
    isplitl [Hr]; · iexact Hr
    isplitl [HzB]; · iexact HzB
    isplitl [HzS] <;> iassumption
  isplitl [HO']; · iexact HO'
  isplitr [Ho]
  · isplitl [Hx]; · iexact Hx
    isplitl [H1]; · iexact H1
    isplitl [H2]; · iexact H2
    isplitl [H3]; · iexact H3
    isplitl [H4]; · iexact H4
    isplitl [H5] <;> iassumption
  iexact Ho

end Cert.Cube

end
-- ==== Proof.Pool.lean ====
/-
# What the launch deals

The exchange's bookkeeping as it is created (every device's own cells), handed round so that each device holds the rights
to pay what it pays, and the credits of the launch.
-/
module

public import proofs.«01_k».proof.Proof.Body

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Creating the cells and the rights to pay -/

theorem kcell_injective : Function.Injective (kcell : Dev nD × CI → GSem nD τ sig) := by
  have hcs : Function.Injective csem := by
    rintro (_ | s | s) (_ | s' | s') h <;>
      first
      | rfl
      | (refine congrArg (fun x => Sum.inr (Sum.inl x)) ?_; have h' : sendSem s = sendSem s' := SemLoc.dma.inj h
         rw [sendSem_eq, sendSem_eq] at h'; have := congrArg Fin.val h'; dsimp only at this; exact Fin.ext (by omega))
      | (refine congrArg (fun x => Sum.inr (Sum.inr x)) ?_; have h' : recvSem s = recvSem s' := SemLoc.dma.inj h
         rw [recvSem_eq, recvSem_eq] at h'; have := congrArg Fin.val h'; dsimp only at this; exact Fin.ext (by omega))
      | (exfalso; have h' : sendSem s = recvSem s' := SemLoc.dma.inj h
         rw [sendSem_eq, recvSem_eq] at h'; have := congrArg Fin.val h'; dsimp only at this; have := s.isLt; omega)
      | (exfalso; have h' : recvSem s = sendSem s' := SemLoc.dma.inj h
         rw [sendSem_eq, recvSem_eq] at h'; have := congrArg Fin.val h'; dsimp only at this; have := s'.isLt; omega)
      | cases h
  rintro ⟨c, k⟩ ⟨c', k'⟩ h
  have h1 : c = c' := by have := congrArg (fun g : GSem nD τ sig => g.1.1) h; exact this
  exact Prod.ext h1 (hcs (congrArg Prod.snd h))

/-- Every cell of the exchange, over all devices. -/
def cubeCells : Finset (GSem nD τ sig) := Finset.univ.map ⟨kcell, kcell_injective⟩

/-- The duties of a device's own cells: five at the barrier, one at each transfer cell. -/
abbrev TI : Type := Fin 5 ⊕ (Fin 15 ⊕ Fin 15)
abbrev tokCell : TI → CI × Fin 5
  | .inl r => (.inl (), r)
  | .inr k => (.inr k, 0)
theorem tokCell_injective : Function.Injective tokCell := by
  rintro (r | k) (r' | k') h <;> first | exact congrArg Sum.inl (congrArg Prod.snd h) | cases congrArg Prod.fst h <;> rfl
abbrev tokOf (cj : Dev nD × TI) : GSem nD τ sig × ℕ × Fin 5 := (kcell (cj.1, (tokCell cj.2).1), 0, (tokCell cj.2).2)
theorem tokOf_injective : Function.Injective tokOf := by
  rintro ⟨c, j⟩ ⟨c', j'⟩ h
  have h1 := kcell_injective (congrArg Prod.fst h)
  have h2 : (tokCell j).2 = (tokCell j').2 := congrArg (fun x : GSem nD τ sig × ℕ × Fin 5 => x.2.2) h
  have hc : c = c' := congrArg Prod.fst h1
  have hj : j = j' := tokCell_injective (Prod.ext (congrArg Prod.snd h1) h2)
  rw [hc, hj]
def cubeToks : Finset (GSem nD τ sig × ℕ × Fin 5) := Finset.univ.map ⟨tokOf, tokOf_injective⟩

/-- The element the launch starts from. -/
def u₀ : UU := (initOf (Pipeline.cells cfgs cellOf_inj) (Pipeline.launchToks cfgs cellOf_inj), initOf cubeCells cubeToks)

/-- The rights to pay at device `c`'s own cells. -/
def toks (c : Dev nD) : sProp 𝕄 :=
  iprop((bigSep Finset.univ fun r : Fin 5 => dutyTok ER (barCell c) 0 r)
    ∗ (bigSep Finset.univ fun s => dutyTok ER (sendCell c s) 0 (0 : Fin 5)) ∗ bigSep Finset.univ fun s => dutyTok ER (recvCell c s) 0 (0 : Fin 5))

/-- What the launch deals device `c`. -/
def G (c : Dev nD) : sProp 𝕄 :=
  iprop((bigSep Finset.univ fun k : CI => roundState ER (rd m ρ) (kcell (c, k)) 0)
    ∗ (bigSep Finset.univ fun k : CI => iprop(atPos ER (kcell (c, k)) 0 ∅ 0 ∗ reached ER (kcell (c, k)) 0)) ∗ toks c)

/-- What the device makes its start of. -/
def G' (c : Dev nD) : sProp 𝕄 := iprop(∃ K, records m ρ K ∗ linear c)

omit [FloatOps F] in
theorem bigSep_unit (Φ : Unit → sProp 𝕄) : bigSep Finset.univ Φ = Φ () := bigSep_univ_eq_bigSepL [()] (by decide) (by decide) Φ

omit [FloatOps F] in
/-- A conjunction over a device's cells. -/
theorem bigSep_CI (Φ : CI → sProp 𝕄) : bigSep Finset.univ Φ
    = iprop(Φ (.inl ()) ∗ (bigSep Finset.univ fun s => Φ (.inr (.inl s))) ∗ bigSep Finset.univ fun s => Φ (.inr (.inr s))) := by
  rw [bigSep_univ_sum, bigSep_unit, bigSep_univ_sum]; rfl

theorem fund_cube : BI.own (ER (initOf cubeCells cubeToks)) ⊢ (|==> bigSep Finset.univ (G m ρ) : sProp 𝕄) := by
  have hX (Φ : GSem nD τ sig → sProp 𝕄) : bigSep cubeCells Φ = bigSep Finset.univ fun c : Dev nD => bigSep Finset.univ fun k : CI => Φ (kcell (c, k)) := by
    unfold cubeCells; rw [bigSep_map, bigSep_univ_prod]; rfl
  have hT : bigSep cubeToks (fun x => (dutyTok ER x.1 x.2.1 x.2.2 : sProp 𝕄)) = bigSep Finset.univ fun c : Dev nD => toks c := by
    unfold cubeToks; rw [bigSep_map, bigSep_univ_prod]
    exact bigSep_congr fun c _ => by unfold toks; rw [bigSep_univ_sum, bigSep_univ_sum]; rfl
  iintro HX
  imod (Rounds.fund ER (rd m ρ) cubeCells cubeToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Handing round -/

omit [FloatOps F] in
/-- The barrier's counter is the launch's one counter outside the call. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The transfer counters are the call's own. -/
theorem ownSems0_eq (c : Dev nD) : (Pipeline.ownSems0 (Ix := Unit) (Name := ℕ) (U := UU) (Lvl := ℕ) (Val := Elt F) (τ := τ) osem c : sProp 𝕄)
    = iprop((bigSep Finset.univ fun s => semVal (sendCell c s) 0) ∗ bigSep Finset.univ fun s => semVal (recvCell c s) 0) := by
  unfold Pipeline.ownSems0; rw [bigSep_univ_sum]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  have hv : iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
    rw [ownSems0_eq, unscopedSems0_eq, bigSep_CI]
    iintro ⟨HS, HB⟩
    isplitl [HB] <;> iassumption
  unfold G
  iintro ⟨Hos, Hus, Hst, Hat, Htok⟩
  ihave Hv := hv $$ [Hos Hus]
  · isplitl [Hos] <;> iassumption
  imod (show iprop((bigSep Finset.univ fun k : CI => semVal (kcell (c, k)) 0) ∗ bigSep Finset.univ fun k : CI => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat] <;> iassumption

omit [FloatOps F] in
/-- A conjunction over devices and duties, every device's moved to its partner along the duty's bit. -/
theorem bigSep_across {I : Type} [Fintype I] [DecidableEq I] (b : I → Fin 5) (Φ : Dev nD → I → sProp 𝕄) :
    (bigSep Finset.univ fun c : Dev nD => bigSep Finset.univ fun i => Φ c i)
      = bigSep Finset.univ fun c : Dev nD => bigSep Finset.univ fun i => Φ (peer (b i) c) i := by
  rw [Pipeline.bigSep_univ_comm, Pipeline.bigSep_univ_comm (fun (c : Dev nD) i => Φ (peer (b i) c) i)]
  exact bigSep_congr fun i _ => bigSep_univ_equiv (flip (b i)) (fun c : Dev nD => Φ c i)

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  have hlin : iprop((bigSep Finset.univ fun c : Dev nD => bigSep Finset.univ fun k : CI => (atPos ER (kcell (c, k)) 0 ∅ 0 : sProp 𝕄))
        ∗ bigSep Finset.univ fun c : Dev nD => toks c) ⊢ bigSep Finset.univ fun c : Dev nD => linear (F := F) c := by
    unfold toks linear
    simp only [bigSep_CI]
    simp only [bigSep_sep']
    rw [bigSep_across (fun r : Fin 5 => r) (fun c r => (dutyTok ER (barCell c) 0 r : sProp 𝕄)),
      bigSep_across bit (fun c s => (dutyTok ER (recvCell c s) 0 (0 : Fin 5) : sProp 𝕄))]
    iintro ⟨⟨H1, H2, H3⟩, H4, H5, H6⟩
    isplitl [H1 H2 H3]
    · isplitl [H1]; · iexact H1
      isplitl [H2] <;> iassumption
    isplitl [H4]; · iexact H4
    isplitl [H5]; · iexact H5
    iexact H6
  have hG (K : Dev nD × CI → ℕ) : iprop(records m ρ K ∗ bigSep Finset.univ fun c : Dev nD => linear (F := F) c) ⊢ bigSep Finset.univ (G' m ρ) :=
    (sep_mono_left (BI.bigSep_of_persistent (Finset.univ : Finset (Dev nD)) (records m ρ K))).trans (by
      rw [← bigSep_sep']
      exact bigSep_mono fun c _ => exists_intro (Φ := fun K => iprop(records m ρ K ∗ linear (F := F) c)) K)
  rw [bigSep_sep', bigSep_sep', ← bigSep_univ_prod (fun ck : Dev nD × CI => iprop(∃ κ : ℕ, cellInv ER (rd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, HR⟩, Htok⟩
  ihave HK := (BI.bigSep_exists_pi Finset.univ (fun (ck : Dev nD × CI) (κ : ℕ) => (cellInv ER (rd m ρ) κ (kcell ck) : sProp 𝕄))) $$ HI
  icases HK with ⟨%K, HI⟩
  ihave Hl := hlin $$ [Hat Htok]
  · isplitl [Hat] <;> iassumption
  iapply (hG K)
  isplitr [Hl]
  · unfold records; isplitl [HI] <;> iassumption
  iexact Hl

/-- Every device's cells opened, and the rights handed round. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

theorem cell_ne {c c' : Dev nD} {k k' : CI} (h : k ≠ k') : kcell (c, k) ≠ kcell (c', k') := fun e => h (congrArg Prod.snd (kcell_injective e))

theorem filter_zero {n : ℕ} : Finset.univ.filter (fun i : Fin n => 0 ≤ i.val) = Finset.univ := Finset.filter_true_of_mem fun _ _ => Nat.zero_le _

/-- What device `d` owes device `c`'s barrier: a unit for every bit they differ in alone. -/
theorem owed_bar (d c : Dev nD) : owed 0 d (barCell c) () = ∑ r : Fin 5, if d = peer r c then 1 else 0 := by
  unfold owed owedX owedB
  rw [filter_zero, filter_zero, Pi.add_apply, Finsupp.add_apply, Finset.sum_apply, Finset.sum_apply, Finsupp.finset_sum_apply, Finsupp.finset_sum_apply,
    Finset.sum_eq_zero fun s _ => by rw [tallyAt_ne_cell (cell_ne (k := .inl ()) (k' := .inr (.inr s)) (by simp))]; rfl, zero_add]
  refine Finset.sum_congr rfl fun r _ => ?_
  rw [tallyAt_apply]
  refine if_congr ⟨fun h => ?_, fun h => ?_⟩ rfl rfl
  · exact eq_peer_iff.mp (congrArg Prod.fst (kcell_injective (a₁ := kBar c) (a₂ := kBar (peer r d)) h.1)).symm
  · exact ⟨congrArg barCell (eq_peer_iff.mpr h).symm, rfl⟩

/-- What device `d` owes device `c`'s receive cell of exchange `s`: the block, if they are partners there. -/
theorem owed_recv (d c : Dev nD) (s : Fin 15) : owed 0 d (recvCell c s) () = if d = buddy s c then N else 0 := by
  unfold owed owedX owedB
  rw [filter_zero, filter_zero, Pi.add_apply, Finsupp.add_apply, Finset.sum_apply, Finset.sum_apply, Finsupp.finset_sum_apply, Finsupp.finset_sum_apply,
    Finset.sum_eq_zero (s := (Finset.univ : Finset (Fin 5))) fun r _ => by rw [tallyAt_ne_cell (cell_ne (k := .inr (.inr s)) (k' := .inl ()) (by simp))]; rfl, add_zero,
    Finset.sum_eq_single s (fun s' _ hs => by
      rw [tallyAt_ne_cell (cell_ne (k := .inr (.inr s)) (k' := .inr (.inr s')) (by simpa using hs.symm))]; rfl) (fun h => absurd (Finset.mem_univ _) h), tallyAt_apply]
  refine if_congr ⟨fun h => ?_, fun h => ?_⟩ rfl rfl
  · exact eq_peer_iff.mp (congrArg Prod.fst (kcell_injective (a₁ := kRecv c s) (a₂ := kRecv (buddy s d) s) h.1)).symm
  · exact ⟨congrArg (fun x => recvCell x s) (eq_peer_iff.mpr h).symm, rfl⟩

theorem launch_bar (c : Dev nD) :
    tallyOn (barCell c) (launchCredit (Pipeline.owing (owed 0)) 0 (barCell c)) = (tallyAt (barCell c) () 5 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun r _ => (Finset.sum_ite_eq' Finset.univ (peer r c) fun _ => 1).trans (if_pos (Finset.mem_univ _))]
  rfl

theorem launch_recv (c : Dev nD) (s : Fin 15) :
    tallyOn (recvCell c s) (launchCredit (Pipeline.owing (owed 0)) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s, Finset.sum_ite_eq' Finset.univ (buddy s c) fun _ => N,
    if_pos (Finset.mem_univ _)]

theorem recvSem_injective : Function.Injective fun s : Fin 15 => (SemLoc.dma (recvSem s) : SemLoc sig) := fun s s' h => by
  have h' : kcell ((0 : Dev nD), Sum.inr (Sum.inr s)) = kcell ((0 : Dev nD), Sum.inr (Sum.inr s')) := congrArg (Prod.mk _) h
  exact Sum.inr.inj (Sum.inr.inj (congrArg Prod.snd (kcell_injective h')))

omit [FloatOps F] in
theorem creds (c : Dev nD) : (Pipeline.launchCred (owed 0) c : sProp 𝕄) ⊢ credits c := by
  unfold Pipeline.launchCred credits
  rw [bigSep_univ_at _ (SemLoc.reg barS), launch_bar]
  refine sep_mono_right ((bigSep_subset (t := Finset.univ.map ⟨_, recvSem_injective⟩) fun x hx => ?_).trans ?_)
  · obtain ⟨s, -, rfl⟩ := Finset.mem_map.mp hx
    exact Finset.mem_erase.mpr ⟨fun h : SemLoc.dma (recvSem s) = SemLoc.reg barS => (nomatch h), Finset.mem_univ _⟩
  · rw [bigSep_map]
    exact bigSep_mono fun s _ => Entails.of_eq (congrArg (fun x => (cred x : sProp 𝕄)) (launch_recv c s))

end Cert.Cube

end
-- ==== Proof.Run.lean ====
/-
# The run

The call's proof data, its body obligation, and the launch: at the end every device's argument arrays hold what they held,
its result array the third layer's output, and every counter is zero.
-/
module

public import proofs.«01_k».proof.Proof.Pool
public import proofs.«01_k».proof.Proof.Gen.KernelIdeal.Points
public import Idealize.ShloMosaic.Lib.Pipeline.CollectiveSegs

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The call's one point. -/
abbrev t₀ : Fin cfg0.N := t0_0
theorem fin_N (t : Fin cfg0.N) : t = t₀ := fin_N0 t

/-- The call's data: what its windows hold before and after the one point, and what the device holds and owes there. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xV m ρ c
    | ⟨1, _⟩ => inV m ρ 0 c
    | ⟨2, _⟩ => outV m ρ 0 c
    | ⟨3, _⟩ => inV m ρ 1 c
    | ⟨4, _⟩ => outV m ρ 1 c
    | ⟨5, _⟩ => inV m ρ 2 c
    | ⟨6, _⟩ => outV m ρ 2 c
    | ⟨7, _⟩ => act m ρ 3 c
  Φ t := match t with
    | ⟨0, _⟩ => Φ₀ m ρ c
    | ⟨_ + 1, _⟩ => Φ₁ c
  q _ := fullShare
  owed t := match t with
    | ⟨0, _⟩ => owed 0 c
    | ⟨_ + 1, _⟩ => 0

omit [FloatOps F] in
theorem bigSep_W (Φ : Fin cfg0.W → sProp 𝕄) : bigSep Finset.univ Φ = iprop(Φ (0 : Fin 8) ∗ Φ (1 : Fin 8) ∗ Φ (2 : Fin 8) ∗ Φ (3 : Fin 8)
    ∗ Φ (4 : Fin 8) ∗ Φ (5 : Fin 8) ∗ Φ (6 : Fin 8) ∗ Φ (7 : Fin 8)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body finds, window by window, and what it leaves. -/
def bodyPre (c : Dev nD) : sProp 𝕄 :=
  iprop(Φ₀ m ρ c ∗ (dats m ρ 0 c).owesAt () t₀.castSucc
    ∗ (∃ d, stg c cc0_stg0_0 ((dats m ρ 0 c).before (0 : Fin 8) t₀ d)) ∗ (∃ d, stg c cc0_stg1_0 ((dats m ρ 0 c).before (1 : Fin 8) t₀ d))
    ∗ (∃ d, stg c cc0_stg2_0 ((dats m ρ 0 c).before (2 : Fin 8) t₀ d)) ∗ (∃ d, stg c cc0_stg3_0 ((dats m ρ 0 c).before (3 : Fin 8) t₀ d))
    ∗ (∃ d, stg c cc0_stg4_0 ((dats m ρ 0 c).before (4 : Fin 8) t₀ d)) ∗ (∃ d, stg c cc0_stg5_0 ((dats m ρ 0 c).before (5 : Fin 8) t₀ d))
    ∗ (∃ d, stg c cc0_stg6_0 ((dats m ρ 0 c).before (6 : Fin 8) t₀ d)) ∗ (∃ d, stg c cc0_stg7_0 ((dats m ρ 0 c).before (7 : Fin 8) t₀ d)))
def bodyPost (c : Dev nD) : sProp 𝕄 :=
  iprop(Φ₁ c ∗ (dats m ρ 0 c).owesAt () t₀.succ ∗ stg c cc0_stg0_0 (xV m ρ c) ∗ stg c cc0_stg1_0 (inV m ρ 0 c) ∗ stg c cc0_stg2_0 (outV m ρ 0 c)
    ∗ stg c cc0_stg3_0 (inV m ρ 1 c) ∗ stg c cc0_stg4_0 (outV m ρ 1 c) ∗ stg c cc0_stg5_0 (inV m ρ 2 c) ∗ stg c cc0_stg6_0 (outV m ρ 2 c)
    ∗ stg c cc0_stg7_0 (act m ρ 3 c))

omit [FloatOps F] in
/-- A buffer known to hold `X` is one holding `X`, -/
theorem stg_out (c : Dev nD) (b : Ref sig .tc) (D : Type) (v : D → b.ty.Contents (Elt F)) (X : b.ty.Contents (Elt F)) (hv : ∀ d, v d = X) :
    iprop(∃ d, stg c b (v d)) ⊢ (pts c b X : sProp 𝕄) := by
  iintro ⟨%d, %f, %hf, H⟩
  subst hf
  rw [hv d]; iexact H
omit [FloatOps F] in
/-- and back. -/
theorem stg_in (c : Dev nD) (b : Ref sig .tc) (X : b.ty.Contents (Elt F)) : (pts c b X : sProp 𝕄) ⊢ stg c b X := by
  iintro H; iexists X; isplitr; · ipureintro; rfl
  iexact H
omit [FloatOps F] in
theorem stg_any (c : Dev nD) (b : Ref sig .tc) (D : Type) (v : D → b.ty.Contents (Elt F)) : iprop(∃ d, stg c b (v d)) ⊢ (iprop(∃ o, pts c b o) : sProp 𝕄) := by
  iintro ⟨%d, %f, -, H⟩; iexists f; iexact H

theorem pre_staged (c : Dev nD) : bodyPre m ρ c ⊢ iprop(Φ₀ m ρ c ∗ debt c (owed 0 c) ∗ staged m ρ c ∗ ∃ o, pts c cc0_stg7_0 o) := by
  have hb (w : Fin cfg0.W) (hf : (cfg0.win w).fetch t₀ = true) (d) : (dats m ρ 0 c).before w t₀ d = (dats m ρ 0 c).fetched w t₀ d := by
    unfold Dat.before; rw [if_pos hf]
  unfold bodyPre staged debt Dat.owesAt Pipeline.owesWithin
  iintro ⟨HΦ, ⟨%W, -, HO⟩, H0, H1, H2, H3, H4, H5, H6, H7⟩
  isplitl [HΦ]; · iexact HΦ
  isplitl [HO]; · iexists W; iexact HO
  isplitr [H7]
  · isplitl [H0]; · iapply (stg_out c cc0_stg0_0 _ _ (xV m ρ c) fun d => hb 0 (fetch0_0 t₀) d); iexact H0
    isplitl [H1]; · iapply (stg_out c cc0_stg1_0 _ _ (inV m ρ 0 c) fun d => hb 1 (fetch0_1 t₀) d); iexact H1
    isplitl [H2]; · iapply (stg_out c cc0_stg2_0 _ _ (outV m ρ 0 c) fun d => hb 2 (fetch0_2 t₀) d); iexact H2
    isplitl [H3]; · iapply (stg_out c cc0_stg3_0 _ _ (inV m ρ 1 c) fun d => hb 3 (fetch0_3 t₀) d); iexact H3
    isplitl [H4]; · iapply (stg_out c cc0_stg4_0 _ _ (outV m ρ 1 c) fun d => hb 4 (fetch0_4 t₀) d); iexact H4
    isplitl [H5]; · iapply (stg_out c cc0_stg5_0 _ _ (inV m ρ 2 c) fun d => hb 5 (fetch0_5 t₀) d); iexact H5
    iapply (stg_out c cc0_stg6_0 _ _ (outV m ρ 2 c) fun d => hb 6 (fetch0_6 t₀) d); iexact H6
  iapply (stg_any c cc0_stg7_0 _ _); iexact H7

theorem post_staged (c : Dev nD) :
    iprop(Φ₁ c ∗ debt c 0 ∗ staged m ρ c ∗ pts c cc0_stg7_0 (act m ρ 3 c)) ⊢ bodyPost m ρ c := by
  unfold bodyPost staged debt Dat.owesAt Pipeline.owesWithin
  rw [show (dats m ρ 0 c).owed t₀.succ = 0 from rfl]
  iintro ⟨HΦ, ⟨%W, HO⟩, ⟨H0, H1, H2, H3, H4, H5, H6⟩, H7⟩
  isplitl [HΦ]; · iexact HΦ
  isplitl [HO]
  · iexists W; isplitr; · ipureintro; exact fun _ _ => Or.inl trivial
    iexact HO
  isplitl [H0]; · iapply (stg_in c cc0_stg0_0); iexact H0
  isplitl [H1]; · iapply (stg_in c cc0_stg1_0); iexact H1
  isplitl [H2]; · iapply (stg_in c cc0_stg2_0); iexact H2
  isplitl [H3]; · iapply (stg_in c cc0_stg3_0); iexact H3
  isplitl [H4]; · iapply (stg_in c cc0_stg4_0); iexact H4
  isplitl [H5]; · iapply (stg_in c cc0_stg5_0); iexact H5
  isplitl [H6]; · iapply (stg_in c cc0_stg6_0); iexact H6
  iapply (stg_in c cc0_stg7_0); iexact H7

set_option maxRecDepth 40000 in
/-- The body's obligation on a device. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wpB c (cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _) cc0_scratch2 cc0_scratch3) (fun _ => bodyPost m ρ c)
  refine (pre_staged m ρ c).trans ?_
  iintro ⟨HΦ, HO, Hst, Ho⟩
  iapply (sound_body m ρ c fun _ => bodyPost m ρ c)
  isplitl [HΦ]; · iexact HΦ
  isplitl [HO]; · iexact HO
  isplitl [Hst]; · iexact Hst
  isplitl [Ho]; · iexact Ho
  iintro H
  iapply (post_staged m ρ c); iexact H

/-! ## The launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (owed 0) c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ accP
  iintro ⟨Hs, -, Ha, Hr⟩
  isplitl [Hs]; · iexact Hs
  isplitl [Ha] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ accP
  iintro ⟨Ha, Hr, HzB, HzS, HzV⟩
  isplitl [HzB]; · iexact HzB
  isplitl [HzS HzV]
  · isplitl [HzS] <;> iassumption
  isplitl [Ha] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What a window's array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Over any float values, from any memory with zero counters: the launch terminates, every array ends at `finalA` and every
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cube m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array ends as it began. -/
theorem finalA_in (c : Dev nD) (w : Fin cfg0.W) (hw : (cfg0.win w).isOut = false) : finalA m ρ c w = (s₀ m ρ).mem ((cfg0.win w).arr.view.loc (c : Thread nD τ)) :=
  (dats (F := F) m ρ 0 c).arrAt_in w hw _

end Cert.Cube

end
-- ==== Proof.Sum.lean ====
/-
# Five exchanges add up all thirty-two partial sums

Over the extended reals. After `r` exchanges a device's running sum is the sum of the partial sums of the devices whose
numbers agree with its own above bit `r`; after five it is the sum over all of them, the same on every device.
-/
module

public import proofs.«01_k».proof.Proof.Cube
public import Idealize.ShloMosaic.Lib.ValueIdx
public import Idealize.ShloMosaic.Lib.Pointwise.Reshape

@[expose] public section

noncomputable section

namespace Cert.Cube

open Cert.KernelIdeal Cert.KernelIdeal.Gen

open Idealize.ShloMosaic
open Idealize.ShloMosaic.TcCoe
open Idealize.ShloMosaic.ValueIdx
open scoped BigOperators

/-- The devices whose numbers agree with `c`'s from bit `r` up. -/
def near (r : ℕ) (c : Dev nD) : Finset (Dev nD) := Finset.univ.filter fun d => d.val / 2 ^ r = c.val / 2 ^ r

/-- Going one bit further takes in the partner's group … -/
theorem near_succ : ∀ (r : Fin 5) (c : Dev nD), near (r.val + 1) c = near r.val c ∪ near r.val (peer r c) := by decide +kernel
/-- … which has no device in common with one's own. -/
theorem near_disjoint : ∀ (r : Fin 5) (c : Dev nD), Disjoint (near r.val c) (near r.val (peer r c)) := by decide +kernel
theorem near_zero : ∀ c : Dev nD, near 0 c = {c} := by decide +kernel
theorem near_five : ∀ c : Dev nD, near 5 c = Finset.univ := by decide +kernel

/-- One addition, at an index. -/
theorem sumV_apply (a b : Vc Ideal) (i : S64x512.Idx) : sumV a b i = (a i + b i : EReal) := by
  unfold sumV; rw [shapeCast_self]; rfl

/-- After `r ≤ 5` exchanges: the sum over the devices that agree from bit `r` up. -/
theorem exch_near (a : Dev nD → Vc Ideal) (i : S64x512.Idx) :
    ∀ (r : ℕ) (_ : r ≤ 5) (c : Dev nD), exch a r c i = (∑ d ∈ near r c, (a d i : EReal) : EReal)
  | 0, _, c => by rw [near_zero, Finset.sum_singleton]; rfl
  | r + 1, h, c => by
    have hr : (⟨r % 5, Nat.mod_lt _ (by decide)⟩ : Fin 5) = ⟨r, h⟩ := Fin.ext (Nat.mod_eq_of_lt h)
    show sumV (exch a r c) (exch a r (peer ⟨r % 5, Nat.mod_lt _ (by decide)⟩ c)) i = _
    rw [sumV_apply, exch_near a i r (by omega), exch_near a i r (by omega), hr,
      near_succ ⟨r, h⟩ c, Finset.sum_union (near_disjoint ⟨r, h⟩ c)]

/-- After all five: the sum over every device. -/
theorem exch_all (a : Dev nD → Vc Ideal) (c : Dev nD) (i : S64x512.Idx) : exch a 5 c i = (∑ d, (a d i : EReal) : EReal) := by
  rw [exch_near a i 5 le_rfl, near_five]

end Cert.Cube

end
-- ==== Proof.Layer.lean ====
/-
# One layer: the devices' blocks together, and the whole

Over the extended reals. A device multiplies the layer's input by its columns of the first matrix, clips at zero and
multiplies by its rows of the second; the reference does the same with the whole matrices. Summed over the devices the
first is the second: the inner dimension, 32768, is the devices' 1024s one after another.
-/
module

public import proofs.«01_k».proof.Proof.Cube
public import proofs.«01_k».proof.Proof.Gen.ReferenceIdeal
public import Idealize.ShloMosaic.Lib.ValueIdx
public import Idealize.ShloMosaic.Lib.MatmulPlain
public import Idealize.ShloMosaic.Lib.StackMember
public import Idealize.ShloMosaic.Lib.IdealHost
public import Idealize.ShloMosaic.Lib.Layout
public import Idealize.ShloMosaic.Lib.Pointwise.Reshape

@[expose] public section

noncomputable section

namespace Cert.Cube

open Cert.KernelIdeal Cert.KernelIdeal.Gen

open Idealize.ShloMosaic hiding ix2 eq_ix2
open Idealize.ShloMosaic.TcCoe
open Idealize.ShloMosaic.ValueIdx
open Idealize.ShloMosaic.StackMember (dotGeneral_plain_apply)
open scoped BigOperators

/-- The contribution of inner coordinate `k` to entry `(i, j)` of a layer. -/
def term {K : ℕ} (x : Vc Ideal) (A : (⟨2, ![512, K]⟩ : Shape).Idx → EReal) (B : (⟨2, ![K, 512]⟩ : Shape).Idx → EReal)
    (i : Fin 64) (j : Fin 512) (k : Fin K) : EReal :=
  max (∑ t : Fin 512, (x (ix2 i t) : EReal) * A (ix2 t k)) 0 * B (ix2 k j)

/-- The reference's layer, as it is printed. -/
def hostLayer (x : Vc Ideal) (A : Vec Ideal Cert.ReferenceIdeal.S512x32768 .f32) (B : Vec Ideal Cert.ReferenceIdeal.S32768x512 .f32) :
    Vc Ideal :=
  Host.dotGeneral (F := Ideal) (φ₁ := .f32) (φ₂ := .f32) Cert.ReferenceIdeal.dot_S64x32768_S32768x512_S64x512_1_0_0_1_n_n none
    (maximumf (F := Ideal) (φ := .f32) (Host.dotGeneral (F := Ideal) (φ₁ := .f32) (φ₂ := .f32) Cert.ReferenceIdeal.dot_S64x512_S512x32768_S64x32768_1_0_0_1_n_n none x A)
      (broadcastInDim Cert.ReferenceIdeal.S64x32768 ![] Cert.ReferenceIdeal.Facts₀.bcast_S_S64x32768
        (constant (F := Ideal) Cert.ReferenceIdeal.S_ .f32 0x00000000#32))) B

/-- Entry `(i, j)` of the reference's layer. -/
theorem hostLayer_apply (x : Vc Ideal) (A B) (i : Fin 64) (j : Fin 512) :
    hostLayer x A B (ix2 i j) = (∑ k : Fin 32768, term x A B i j k : EReal) := by
  refine (dotGeneral_plain_apply none _ B i j).trans (Finset.sum_congr rfl fun k _ => ?_)
  unfold term
  rw [maximumf_apply, broadcastInDim_scalar_apply, constant_apply, Ideal.ofBits_zero_f32]
  exact congrArg (fun z : EReal => max z 0 * B (ix2 k j)) (dotGeneral_plain_apply none x A i k)

/-- Entry `(i, j)` of one device's product. -/
theorem pay2_apply (x : Vc Ideal) (A : Vec Ideal S512x1024 .f32) (B : Vec Ideal S1024x512 .f32) (i : Fin 64) (j : Fin 512) :
    k0_pay2 x A B (ix2 i j) = (∑ k : Fin 1024, term x A B i j k : EReal) := by
  unfold k0_pay2
  simp only [shapeCast_self]
  refine (Ideal.matmul_plain_apply none _ B _ i j).trans ?_
  rw [constant_apply, Ideal.ofBits_zero_f32, zero_add]
  refine Finset.sum_congr rfl fun k _ => ?_
  unfold term
  refine congrArg (fun z : EReal => z * B (ix2 k j)) ?_
  refine congrArg₂ (max : EReal → EReal → EReal) ((Ideal.matmul_plain_apply none x A _ i k).trans ?_) Ideal.ofBits_zero_f32
  rw [constant_apply, Ideal.ofBits_zero_f32, zero_add]

/-- The inner coordinates of all blocks, one block after another, are the whole's. -/
theorem sum_blocks (f : Fin 32768 → EReal) :
    (∑ c : Fin 32, ∑ k : Fin 1024, f ⟨c.val * 1024 + k.val, by have := c.isLt; have := k.isLt; omega⟩) = ∑ k, f k := by
  rw [← Equiv.sum_comp (finProdFinEquiv (m := 32) (n := 1024)) f, Fintype.sum_prod_type]
  refine Finset.sum_congr rfl fun c _ => Finset.sum_congr rfl fun k _ => congrArg f (Fin.ext ?_)
  show c.val * 1024 + k.val = k.val + 1024 * c.val
  omega

/-- A device's coordinate `k` contributes what the whole's coordinate `1024 c + k` does. -/
theorem term_block (x : Vc Ideal) (A : (⟨2, ![512, 32768]⟩ : Shape).Idx → EReal) (B : (⟨2, ![32768, 512]⟩ : Shape).Idx → EReal)
    (hA : Layout.Tiles ⟨2, ![512, 1024]⟩ ⟨2, ![512, 32768]⟩ 1 32) (hB : Layout.Tiles ⟨2, ![1024, 512]⟩ ⟨2, ![32768, 512]⟩ 0 32)
    (c : Fin 32) (i : Fin 64) (j : Fin 512) (k : Fin 1024) :
    term x (Layout.block ⟨2, ![512, 1024]⟩ ⟨2, ![512, 32768]⟩ 1 32 c A hA) (Layout.block ⟨2, ![1024, 512]⟩ ⟨2, ![32768, 512]⟩ 0 32 c B hB) i j k
      = term x A B i j ⟨c.val * 1024 + k.val, by have := c.isLt; have := k.isLt; omega⟩ := by
  have ha : ∀ t : Fin 512, hA.idx c (ix2 t k) = ix2 t ⟨c.val * 1024 + k.val, by have := c.isLt; have := k.isLt; omega⟩ := fun t =>
    (eq_ix2 _).trans (congrArg₂ ix2 (Fin.ext (Layout.idx_cols_val hA c (ix2 t k)).1) (Fin.ext (Layout.idx_cols_val hA c (ix2 t k)).2))
  have hb : hB.idx c (ix2 k j) = ix2 ⟨c.val * 1024 + k.val, by have := c.isLt; have := k.isLt; omega⟩ j :=
    (eq_ix2 _).trans (congrArg₂ ix2 (Fin.ext (Layout.idx_rows_val hB c (ix2 k j)).1) (Fin.ext (Layout.idx_rows_val hB c (ix2 k j)).2))
  unfold term
  rw [Layout.block_apply, hb]
  refine congrArg (fun z : EReal => max z 0 * _) (Finset.sum_congr rfl fun t _ => ?_)
  rw [Layout.block_apply, ha]

/-- **One layer.** The devices' products, summed, are the reference's layer. -/
theorem sum_pay2 (x : Vc Ideal) (A : Vec Ideal Cert.ReferenceIdeal.S512x32768 .f32) (B : Vec Ideal Cert.ReferenceIdeal.S32768x512 .f32)
    (hA : Layout.Tiles ⟨2, ![512, 1024]⟩ ⟨2, ![512, 32768]⟩ 1 32) (hB : Layout.Tiles ⟨2, ![1024, 512]⟩ ⟨2, ![32768, 512]⟩ 0 32)
    (i : S64x512.Idx) :
    (∑ c : Dev nD, (k0_pay2 (F := Ideal) x (Layout.block ⟨2, ![512, 1024]⟩ ⟨2, ![512, 32768]⟩ 1 32 c A hA)
      (Layout.block ⟨2, ![1024, 512]⟩ ⟨2, ![32768, 512]⟩ 0 32 c B hB) i : EReal)) = hostLayer x A B i := by
  obtain ⟨a, b, rfl⟩ : ∃ (a : Fin 64) (b : Fin 512), i = ix2 a b := ⟨i 0, i 1, eq_ix2 i⟩
  rw [hostLayer_apply, ← sum_blocks]
  refine Finset.sum_congr rfl fun c _ => ?_
  rw [pay2_apply]
  exact Finset.sum_congr rfl fun k _ => term_block x A B hA hB c _ _ k

end Cert.Cube

end
-- ==== Proof.Final.lean ====
/-
# What every array holds in the end

The result array of every device is the running value after the third layer; over the extended reals, when the devices
hold one input and the column and row blocks of the reference's matrices, that is the reference's three layers.
-/
module

public import proofs.«01_k».proof.Proof.Run
public import proofs.«01_k».proof.Proof.Sum
public import proofs.«01_k».proof.Proof.Layer

@[expose] public section

noncomputable section

namespace Cert.Cube

open Cert.KernelIdeal Cert.KernelIdeal.Gen

open Idealize.ShloMosaic
open Idealize.ShloMosaic.TcCoe
open Idealize.SL.Sem
open scoped BigOperators

section AnyValues

variable {F : FTy → Type} [FloatOps F]
variable (m : (ℓ : Loc nD τ sig) → Buf (Elt F) ℓ) (ρ : Dev nD → PrngReg)

/-! ## Every window's one block is its whole array -/

theorem blk_x (f : Vec F S64x512 .f32) : (win0_0.blk (0 : Fin 1)).view.read (Elt F) f = f :=
  Memref.read_access_unit_zero (Elt F) main_arg0 (funext fun a => by fin_cases a <;> decide) (fun a => by fin_cases a <;> decide) f
theorem blk_in0 (f : Vec F S512x1024 .f32) : (win0_1.blk (0 : Fin 1)).view.read (Elt F) f = f :=
  Memref.read_access_unit_zero (Elt F) main_arg1 (funext fun a => by fin_cases a <;> decide) (fun a => by fin_cases a <;> decide) f
theorem blk_in1 (f : Vec F S512x1024 .f32) : (win0_3.blk (0 : Fin 1)).view.read (Elt F) f = f :=
  Memref.read_access_unit_zero (Elt F) main_arg2 (funext fun a => by fin_cases a <;> decide) (fun a => by fin_cases a <;> decide) f
theorem blk_in2 (f : Vec F S512x1024 .f32) : (win0_5.blk (0 : Fin 1)).view.read (Elt F) f = f :=
  Memref.read_access_unit_zero (Elt F) main_arg3 (funext fun a => by fin_cases a <;> decide) (fun a => by fin_cases a <;> decide) f
theorem blk_out0 (f : Vec F S1024x512 .f32) : (win0_2.blk (0 : Fin 1)).view.read (Elt F) f = f :=
  Memref.read_access_unit_zero (Elt F) main_arg4 (funext fun a => by fin_cases a <;> decide) (fun a => by fin_cases a <;> decide) f
theorem blk_out1 (f : Vec F S1024x512 .f32) : (win0_4.blk (0 : Fin 1)).view.read (Elt F) f = f :=
  Memref.read_access_unit_zero (Elt F) main_arg5 (funext fun a => by fin_cases a <;> decide) (fun a => by fin_cases a <;> decide) f
theorem blk_out2 (f : Vec F S1024x512 .f32) : (win0_6.blk (0 : Fin 1)).view.read (Elt F) f = f :=
  Memref.read_access_unit_zero (Elt F) main_arg6 (funext fun a => by fin_cases a <;> decide) (fun a => by fin_cases a <;> decide) f
theorem blk_res (f : Vec F S64x512 .f32) : (win0_7.blk (0 : Fin 1)).view.read (Elt F) f = f :=
  Memref.read_access_unit_zero (Elt F) main_v1 (funext fun a => by fin_cases a <;> decide) (fun a => by fin_cases a <;> decide) f

/-- The result array ends at the value after the third layer. -/
theorem finalA_res (c : Dev nD) : finalA m ρ c (7 : Fin 8) = act m ρ 3 c := by
  refine (blk_res _).symm.trans ?_
  unfold finalA
  rw [show cfg0.N = ((0 : Fin 1) : Fin cfg0.N).val + 1 from rfl, (dats m ρ 0 c).arrAt_succ (7 : Fin 8) (0 : Fin 1),
    show (cfg0.win (7 : Fin 8)).flush (0 : Fin 1) = true from flush0_7 _, if_pos rfl]
  exact View.read_write_univ _ _

/-- The arguments end as they began, given what the arrays end at. -/
theorem args_of_QC {r} (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  have e (w : Fin cfg0.W) (hw : (cfg0.win w).isOut = false) := (h c w).trans (finalA_in m ρ c w hw)
  ⟨e (0 : Fin 8) rfl, e (1 : Fin 8) rfl, e (3 : Fin 8) rfl, e (5 : Fin 8) rfl, e (2 : Fin 8) rfl, e (4 : Fin 8) rfl, e (6 : Fin 8) rfl⟩

end AnyValues

/-! ## The three layers -/

/-- One layer of the exchange, where every device starts from the same input and holds its blocks of `A` and `B`. -/
theorem layer_eq (m : (ℓ : Loc nD τ sig) → Buf (Elt Ideal) ℓ) (ρ : Dev nD → PrngReg) (l : ℕ) (x : Vc Ideal)
    (A : Vec Ideal Cert.ReferenceIdeal.S512x32768 .f32) (B : Vec Ideal Cert.ReferenceIdeal.S32768x512 .f32)
    (hA : Layout.Tiles ⟨2, ![512, 1024]⟩ ⟨2, ![512, 32768]⟩ 1 32) (hB : Layout.Tiles ⟨2, ![1024, 512]⟩ ⟨2, ![32768, 512]⟩ 0 32)
    (hx : ∀ c, act m ρ l c = x)
    (hin : ∀ c, inV m ρ ⟨l % 3, Nat.mod_lt _ (by decide)⟩ c = Layout.block ⟨2, ![512, 1024]⟩ ⟨2, ![512, 32768]⟩ 1 32 c A hA)
    (hout : ∀ c, outV m ρ ⟨l % 3, Nat.mod_lt _ (by decide)⟩ c = Layout.block ⟨2, ![1024, 512]⟩ ⟨2, ![32768, 512]⟩ 0 32 c B hB)
    (c : Dev nD) : act m ρ (l + 1) c = hostLayer x A B := by
  funext i
  refine (exch_all (part m ρ l (act m ρ l)) c i).trans ((Finset.sum_congr rfl fun d _ => ?_).trans (sum_pay2 x A B hA hB i))
  unfold part
  rw [hx, hin, hout]

/-- **The value.** The value after the third layer is the reference's three layers, on every device. -/
theorem act_three (m : (ℓ : Loc nD τ sig) → Buf (Elt Ideal) ℓ) (ρ : Dev nD → PrngReg) (x : Vc Ideal)
    (A : Fin 3 → Vec Ideal Cert.ReferenceIdeal.S512x32768 .f32) (B : Fin 3 → Vec Ideal Cert.ReferenceIdeal.S32768x512 .f32)
    (hA : Layout.Tiles ⟨2, ![512, 1024]⟩ ⟨2, ![512, 32768]⟩ 1 32) (hB : Layout.Tiles ⟨2, ![1024, 512]⟩ ⟨2, ![32768, 512]⟩ 0 32)
    (hx : ∀ c, xV m ρ c = x)
    (hin : ∀ l c, inV m ρ l c = Layout.block ⟨2, ![512, 1024]⟩ ⟨2, ![512, 32768]⟩ 1 32 c (A l) hA)
    (hout : ∀ l c, outV m ρ l c = Layout.block ⟨2, ![1024, 512]⟩ ⟨2, ![32768, 512]⟩ 0 32 c (B l) hB) (c : Dev nD) :
    act m ρ 3 c = hostLayer (hostLayer (hostLayer x (A 0) (B 0)) (A 1) (B 1)) (A 2) (B 2) := by
  have h0 : ∀ c, act m ρ 0 c = x := fun c => by
    show k0_pay1 (xV m ρ c) = x
    unfold k0_pay1
    rw [shapeCast_self, hx]
  have h1 := layer_eq m ρ 0 x (A 0) (B 0) hA hB h0 (hin 0) (hout 0)
  have h2 := layer_eq m ρ 1 _ (A 1) (B 1) hA hB h1 (hin 1) (hout 1)
  exact layer_eq m ρ 2 _ (A 2) (B 2) hA hB h2 (hin 2) (hout 2) c

end Cert.Cube

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel, at the extended reals: it ends, its arguments as they began and every counter at zero. -/
theorem frame_kernelIdeal : Cert.quiescent_KernelIdeal := fun m ρ _ =>
  (θ_run Cert.KernelIdeal.defs _ _).mono (fun _ h => ⟨Cert.Cube.args_of_QC m ρ h.1, h.2⟩) (Cert.Cube.run_main (F := Ideal) m ρ)

/-- The two printed programs' body tables are one table. -/
theorem bodies_eq : Cert.Kernel.defs₀ (F := Bits) = Cert.KernelIdeal.defs₀ (F := Bits) := by
  unfold Cert.Kernel.defs₀ Cert.KernelIdeal.defs₀
  refine congrArg _ ?_
  funext l a
  match l, a with
  | 0, (t, s) => exact rfl

theorem tables_eq : Cert.Kernel.defs (F := Bits) = Cert.KernelIdeal.defs (F := Bits) :=
  congrArg (fun d => Pipeline.defs Cert.KernelIdeal.pcfgs d) bodies_eq

/-- The kernel at the machine's floats: the same run, at other values. -/
theorem frame_kernel : Cert.quiescent_Kernel := fun m ρ _ => by
  rw [tables_eq]
  exact (θ_run Cert.KernelIdeal.defs _ _).mono (fun r h => And.intro (Cert.Cube.args_of_QC m ρ h.1) h.2) (Cert.Cube.run_main (F := Bits) m ρ)

/-- The reference: its run, and it has no counters. -/
theorem frame_referenceIdeal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- The columns of a first matrix, and the rows of a second, tile over the devices. -/
theorem tiles_cols : Layout.Tiles ⟨2, ![512, 1024]⟩ ⟨2, ![512, 32768]⟩ 1 32 := by decide
theorem tiles_rows : Layout.Tiles ⟨2, ![1024, 512]⟩ ⟨2, ![32768, 512]⟩ 0 32 := by decide

open Cert.Cube in
/-- Every device's result is the reference's. -/
theorem algebraic : Cert.algebraic_KernelIdeal_ReferenceIdeal := fun m ρ m' ρ' _ hm =>
  let a (b : Ref Cert.ReferenceIdeal.sig .tc) := m' (((0 : Dev Cert.ReferenceIdeal.nD).tc : Thread Cert.ReferenceIdeal.nD Cert.ReferenceIdeal.τ).loc b)
  have hin : ∀ l c, inV m ρ l c = Layout.block ⟨2, ![512, 1024]⟩ ⟨2, ![512, 32768]⟩ 1 32 c
      ((![a Cert.ReferenceIdeal.main_arg1, a Cert.ReferenceIdeal.main_arg2, a Cert.ReferenceIdeal.main_arg3] :
        Fin 3 → Vec Ideal Cert.ReferenceIdeal.S512x32768 .f32) l) tiles_cols := fun l c => match l with
    | 0 => (blk_in0 _).trans (hm c).2.1
    | 1 => (blk_in1 _).trans (hm c).2.2.1
    | 2 => (blk_in2 _).trans (hm c).2.2.2.1
  have hout : ∀ l c, outV m ρ l c = Layout.block ⟨2, ![1024, 512]⟩ ⟨2, ![32768, 512]⟩ 0 32 c
      ((![a Cert.ReferenceIdeal.main_arg4, a Cert.ReferenceIdeal.main_arg5, a Cert.ReferenceIdeal.main_arg6] :
        Fin 3 → Vec Ideal Cert.ReferenceIdeal.S32768x512 .f32) l) tiles_rows := fun l c => match l with
    | 0 => (blk_out0 _).trans (hm c).2.2.2.2.1
    | 1 => (blk_out1 _).trans (hm c).2.2.2.2.2.1
    | 2 => (blk_out2 _).trans (hm c).2.2.2.2.2.2
  have hact := act_three m ρ (a Cert.ReferenceIdeal.main_arg0) _ _ tiles_cols tiles_rows (fun c => (blk_x _).trans (hm c).1) hin hout
  ⟨_, (θ_run Cert.KernelIdeal.defs _ _).mono
      (fun _ h c => ⟨((h.1 c (7 : Fin 8)).trans (finalA_res m ρ c)).trans (hact c), args_of_QC m ρ h.1 c⟩) (run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
